-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x2048 : Shape := ⟨3, ![8, 1024, 2048]⟩
abbrev S5632x1024 : Shape := ⟨2, ![5632, 1024]⟩
abbrev S5632x32 : Shape := ⟨2, ![5632, 32]⟩
abbrev S704 : Shape := ⟨1, ![704]⟩
abbrev S_ : Shape := ⟨0, ![]⟩
abbrev S1 : Shape := ⟨1, ![1]⟩
abbrev S8192x2048 : Shape := ⟨2, ![8192, 2048]⟩
abbrev S8192x5632 : Shape := ⟨2, ![8192, 5632]⟩
abbrev S1024x2048 : Shape := ⟨2, ![1024, 2048]⟩
abbrev S512x1024 : Shape := ⟨2, ![512, 1024]⟩
abbrev S512x32 : Shape := ⟨2, ![512, 32]⟩
abbrev S1024x512 : Shape := ⟨2, ![1024, 512]⟩
abbrev S512x2048 : Shape := ⟨2, ![512, 2048]⟩
abbrev S16x128 : Shape := ⟨2, ![16, 128]⟩
abbrev S64x32 : Shape := ⟨2, ![64, 32]⟩
abbrev S8x32 : Shape := ⟨2, ![8, 32]⟩
abbrev S64x128 : Shape := ⟨2, ![64, 128]⟩
abbrev S16x128x1 : Shape := ⟨3, ![16, 128, 1]⟩
abbrev S64x128x1 : Shape := ⟨3, ![64, 128, 1]⟩

abbrev nBuf : Space → Nat
  | .hbm => 8
  | .vmem => 9
  | .smem => 2
  | _ => 0

abbrev bufTy : (tb : Table) → Fin (tcTables nBuf tb) → BufTy
  | .hbm, ⟨0, _⟩ => ⟨S8x1024x2048, .bf16⟩
  | .hbm, ⟨1, _⟩ => ⟨S5632x1024, .i8⟩
  | .hbm, ⟨2, _⟩ => ⟨S5632x32, .i8⟩
  | .hbm, ⟨3, _⟩ => ⟨S704, .f32⟩
  | .hbm, ⟨4, _⟩ => ⟨S_, .f32⟩
  | .hbm, ⟨5, _⟩ => ⟨S1, .f32⟩
  | .hbm, ⟨6, _⟩ => ⟨S8192x2048, .bf16⟩
  | .hbm, ⟨7, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x1024, .i8⟩
  | .local _ .vmem, ⟨3, _⟩ => ⟨S512x1024, .i8⟩
  | .local _ .vmem, ⟨4, _⟩ => ⟨S512x32, .i8⟩
  | .local _ .vmem, ⟨5, _⟩ => ⟨S512x32, .i8⟩
  | .local _ .vmem, ⟨6, _⟩ => ⟨S1024x512, .bf16⟩
  | .local _ .vmem, ⟨7, _⟩ => ⟨S1024x512, .bf16⟩
  | .local _ .vmem, ⟨8, _⟩ => ⟨S512x2048, .bf16⟩
  | .local _ .smem, ⟨0, _⟩ => ⟨S704, .f32⟩
  | .local _ .smem, ⟨1, _⟩ => ⟨S1, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![11, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v9 : BitVec 32 := Scalar.addi c0_i32_6 c8_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  v10
def k0_off1 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v62 : Index := Scalar.indexCast v11
  let c0_25 : Index := 0#32
  ![v62.toNat, 0]
def k0_off2 (i : grid0.Coords) (k0_t1 : Fin k0_t1_loop.trips) (c0_i32_26 : BitVec 32) : Fin 1 → Nat :=
  let arg0 : BitVec 32 := BitVec.ofNat 32 (i 0).val
  let c64_i32_9 : BitVec 32 := 64#32
  let v13 : BitVec 32 := Scalar.muli arg0 c64_i32_9
  let c0_i32_6 : BitVec 32 := 0#32
  let c1_i32 : BitVec 32 := 1#32
  let arg9 : BitVec 32 := Scf.iv c0_i32_6 c1_i32 k0_t1
  let c8_i32_10 : BitVec 32 := 8#32
  let v14 : BitVec 32 := Scalar.muli arg9 c8_i32_10
  let v15 : BitVec 32 := Scalar.addi v13 v14
  let v65 : BitVec 32 := Scalar.addi v15 c0_i32_26
  let v66 : Index := Scalar.indexCast v65
  ![v66.toNat]
def k0_off3 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v158 : Index := Scalar.indexCast v11
  let c0_37 : Index := 0#32
  ![v158.toNat, 0]
def k0_off4 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v233 : Index := Scalar.indexCast v11
  let c0_62 : Index := 0#32
  ![v233.toNat, 0]
def k0_off5 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v309 : Index := Scalar.indexCast v11
  let c128 : Index := 128#32
  ![v309.toNat, 128]
def k0_off6 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v313 : Index := Scalar.indexCast v11
  let c128_93 : Index := 128#32
  ![v313.toNat, 128]
def k0_off7 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v388 : Index := Scalar.indexCast v11
  let c256 : Index := 256#32
  ![v388.toNat, 256]
def k0_off8 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v464 : Index := Scalar.indexCast v11
  let c384 : Index := 384#32
  ![v464.toNat, 384]
def k0_off9 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v468 : Index := Scalar.indexCast v11
  let c256_154 : Index := 256#32
  ![v468.toNat, 256]
def k0_off10 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v543 : Index := Scalar.indexCast v11
  let c512 : Index := 512#32
  ![v543.toNat, 512]
def k0_off11 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v619 : Index := Scalar.indexCast v11
  let c640 : Index := 640#32
  ![v619.toNat, 640]
def k0_off12 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v623 : Index := Scalar.indexCast v11
  let c384_214 : Index := 384#32
  ![v623.toNat, 384]
def k0_off13 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v698 : Index := Scalar.indexCast v11
  let c768 : Index := 768#32
  ![v698.toNat, 768]
def k0_off14 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v774 : Index := Scalar.indexCast v11
  let c896 : Index := 896#32
  ![v774.toNat, 896]
def k0_off15 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v778 : Index := Scalar.indexCast v11
  let c512_273 : Index := 512#32
  ![v778.toNat, 512]
def k0_off16 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v853 : Index := Scalar.indexCast v11
  let c1024 : Index := 1024#32
  ![v853.toNat, 1024]
def k0_off17 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v929 : Index := Scalar.indexCast v11
  let c1152 : Index := 1152#32
  ![v929.toNat, 1152]
def k0_off18 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v933 : Index := Scalar.indexCast v11
  let c640_332 : Index := 640#32
  ![v933.toNat, 640]
def k0_off19 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v1008 : Index := Scalar.indexCast v11
  let c1280 : Index := 1280#32
  ![v1008.toNat, 1280]
def k0_off20 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v1084 : Index := Scalar.indexCast v11
  let c1408 : Index := 1408#32
  ![v1084.toNat, 1408]
def k0_off21 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v1088 : Index := Scalar.indexCast v11
  let c768_391 : Index := 768#32
  ![v1088.toNat, 768]
def k0_off22 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v1163 : Index := Scalar.indexCast v11
  let c1536 : Index := 1536#32
  ![v1163.toNat, 1536]
def k0_off23 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v1239 : Index := Scalar.indexCast v11
  let c1664 : Index := 1664#32
  ![v1239.toNat, 1664]
def k0_off24 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v1243 : Index := Scalar.indexCast v11
  let c896_450 : Index := 896#32
  ![v1243.toNat, 896]
def k0_off25 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v1318 : Index := Scalar.indexCast v11
  let c1792 : Index := 1792#32
  ![v1318.toNat, 1792]
def k0_off26 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c64_i32 : BitVec 32 := 64#32
  let v10 : BitVec 32 := Scalar.muli arg9 c64_i32
  let v11 : BitVec 32 := v10
  let v1394 : Index := Scalar.indexCast v11
  let c1920 : Index := 1920#32
  ![v1394.toNat, 1920]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x32 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x1024x2048 : Shape := ⟨3, ![8, 1024, 2048]⟩
abbrev S5632x1024 : Shape := ⟨2, ![5632, 1024]⟩
abbrev S5632x32 : Shape := ⟨2, ![5632, 32]⟩
abbrev S704 : Shape := ⟨1, ![704]⟩
abbrev S_ : Shape := ⟨0, ![]⟩
abbrev S704x256 : Shape := ⟨2, ![704, 256]⟩
abbrev S704x1 : Shape := ⟨2, ![704, 1]⟩
abbrev S5632x1024x1 : Shape := ⟨3, ![5632, 1024, 1]⟩
abbrev S5632x1024x2 : Shape := ⟨3, ![5632, 1024, 2]⟩
abbrev S5632x2048 : Shape := ⟨2, ![5632, 2048]⟩
abbrev S5632x32x64 : Shape := ⟨3, ![5632, 32, 64]⟩
abbrev S5632x32x1 : Shape := ⟨3, ![5632, 32, 1]⟩
abbrev S8x1024x5632 : Shape := ⟨3, ![8, 1024, 5632]⟩
abbrev S8192x5632 : Shape := ⟨2, ![8192, 5632]⟩

abbrev nBuf : Space → Nat
  | .hbm => 108
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S5632x1024, .i8⟩
  | .hbm, ⟨2, _⟩ => ⟨S5632x32, .i8⟩
  | .hbm, ⟨3, _⟩ => ⟨S704, .f32⟩
  | .hbm, ⟨4, _⟩ => ⟨S_, .f32⟩
  | .hbm, ⟨5, _⟩ => ⟨S5632x32, .i32⟩
  | .hbm, ⟨6, _⟩ => ⟨S5632x32, .f32⟩
  | .hbm, ⟨7, _⟩ => ⟨S704x256, .f32⟩
  | .hbm, ⟨8, _⟩ => ⟨S704x1, .f32⟩
  | .hbm, ⟨9, _⟩ => ⟨S704x256, .f32⟩
  | .hbm, ⟨10, _⟩ => ⟨S704x256, .f32⟩
  | .hbm, ⟨11, _⟩ => ⟨S704x256, .f32⟩
  | .hbm, ⟨12, _⟩ => ⟨S704x256, .f32⟩
  | .hbm, ⟨13, _⟩ => ⟨S5632x32, .f32⟩
  | .hbm, ⟨14, _⟩ => ⟨S5632x32, .bf16⟩
  | .hbm, ⟨15, _⟩ => ⟨S5632x1024, .i32⟩
  | .hbm, ⟨16, _⟩ => ⟨S_, .i32⟩
  | .hbm, ⟨17, _⟩ => ⟨S5632x1024, .i32⟩
  | .hbm, ⟨18, _⟩ => ⟨S5632x1024, .i32⟩
  | .hbm, ⟨19, _⟩ => ⟨S_, .i32⟩
  | .hbm, ⟨20, _⟩ => ⟨S5632x1024, .i32⟩
  | .hbm, ⟨21, _⟩ => ⟨S5632x1024, .i32⟩
  | .hbm, ⟨22, _⟩ => ⟨S_, .i32⟩
  | .hbm, ⟨23, _⟩ => ⟨S5632x1024, .i32⟩
  | .hbm, ⟨24, _⟩ => ⟨S5632x1024, .i32⟩
  | .hbm, ⟨25, _⟩ => ⟨S5632x1024x1, .i32⟩
  | .hbm, ⟨26, _⟩ => ⟨S5632x1024x1, .i32⟩
  | .hbm, ⟨27, _⟩ => ⟨S5632x1024x2, .i32⟩
  | .hbm, ⟨28, _⟩ => ⟨S5632x2048, .i32⟩
  | .hbm, ⟨29, _⟩ => ⟨S_, .i32⟩
  | .hbm, ⟨30, _⟩ => ⟨S5632x2048, .i32⟩
  | .hbm, ⟨31, _⟩ => ⟨S5632x2048, .i32⟩
  | .hbm, ⟨32, _⟩ => ⟨S_, .i32⟩
  | .hbm, ⟨33, _⟩ => ⟨S5632x2048, .i32⟩
  | .hbm, ⟨34, _⟩ => ⟨S5632x2048, .i1⟩
  | .hbm, ⟨35, _⟩ => ⟨S_, .i32⟩
  | .hbm, ⟨36, _⟩ => ⟨S5632x2048, .i32⟩
  | .hbm, ⟨37, _⟩ => ⟨S5632x2048, .i32⟩
  | .hbm, ⟨38, _⟩ => ⟨S_, .i32⟩
  | .hbm, ⟨39, _⟩ => ⟨S5632x2048, .i32⟩
  | .hbm, ⟨40, _⟩ => ⟨S5632x2048, .i1⟩
  | .hbm, ⟨41, _⟩ => ⟨S_, .i32⟩
  | .hbm, ⟨42, _⟩ => ⟨S5632x2048, .i32⟩
  | .hbm, ⟨43, _⟩ => ⟨S5632x2048, .i32⟩
  | .hbm, ⟨44, _⟩ => ⟨S_, .i32⟩
  | .hbm, ⟨45, _⟩ => ⟨S5632x2048, .i32⟩
  | .hbm, ⟨46, _⟩ => ⟨S5632x2048, .i1⟩
  | .hbm, ⟨47, _⟩ => ⟨S_, .i32⟩
  | .hbm, ⟨48, _⟩ => ⟨S5632x2048, .i32⟩
  | .hbm, ⟨49, _⟩ => ⟨S5632x2048, .i32⟩
  | .hbm, ⟨50, _⟩ => ⟨S_, .i32⟩
  | .hbm, ⟨51, _⟩ => ⟨S5632x2048, .i32⟩
  | .hbm, ⟨52, _⟩ => ⟨S5632x2048, .i1⟩
  | .hbm, ⟨53, _⟩ => ⟨S_, .bf16⟩
  | .hbm, ⟨54, _⟩ => ⟨S_, .bf16⟩
  | .hbm, ⟨55, _⟩ => ⟨S5632x2048, .bf16⟩
  | .hbm, ⟨56, _⟩ => ⟨S5632x2048, .bf16⟩
  | .hbm, ⟨57, _⟩ => ⟨S5632x2048, .bf16⟩
  | .hbm, ⟨58, _⟩ => ⟨S_, .bf16⟩
  | .hbm, ⟨59, _⟩ => ⟨S_, .bf16⟩
  | .hbm, ⟨60, _⟩ => ⟨S5632x2048, .bf16⟩
  | .hbm, ⟨61, _⟩ => ⟨S5632x2048, .bf16⟩
  | .hbm, ⟨62, _⟩ => ⟨S5632x2048, .bf16⟩
  | .hbm, ⟨63, _⟩ => ⟨S_, .bf16⟩
  | .hbm, ⟨64, _⟩ => ⟨S_, .bf16⟩
  | .hbm, ⟨65, _⟩ => ⟨S5632x2048, .bf16⟩
  | .hbm, ⟨66, _⟩ => ⟨S5632x2048, .bf16⟩
  | .hbm, ⟨67, _⟩ => ⟨S5632x2048, .bf16⟩
  | .hbm, ⟨68, _⟩ => ⟨S_, .bf16⟩
  | .hbm, ⟨69, _⟩ => ⟨S_, .bf16⟩
  | .hbm, ⟨70, _⟩ => ⟨S5632x2048, .bf16⟩
  | .hbm, ⟨71, _⟩ => ⟨S5632x2048, .bf16⟩
  | .hbm, ⟨72, _⟩ => ⟨S5632x2048, .bf16⟩
  | .hbm, ⟨73, _⟩ => ⟨S_, .bf16⟩
  | .hbm, ⟨74, _⟩ => ⟨S_, .bf16⟩
  | .hbm, ⟨75, _⟩ => ⟨S5632x2048, .bf16⟩
  | .hbm, ⟨76, _⟩ => ⟨S5632x2048, .bf16⟩
  | .hbm, ⟨77, _⟩ => ⟨S5632x2048, .bf16⟩
  | .hbm, ⟨78, _⟩ => ⟨S_, .bf16⟩
  | .hbm, ⟨79, _⟩ => ⟨S_, .bf16⟩
  | .hbm, ⟨80, _⟩ => ⟨S5632x2048, .bf16⟩
  | .hbm, ⟨81, _⟩ => ⟨S5632x2048, .bf16⟩
  | .hbm, ⟨82, _⟩ => ⟨S5632x2048, .bf16⟩
  | .hbm, ⟨83, _⟩ => ⟨S_, .bf16⟩
  | .hbm, ⟨84, _⟩ => ⟨S_, .bf16⟩
  | .hbm, ⟨85, _⟩ => ⟨S5632x2048, .bf16⟩
  | .hbm, ⟨86, _⟩ => ⟨S5632x2048, .bf16⟩
  | .hbm, ⟨87, _⟩ => ⟨S5632x2048, .bf16⟩
  | .hbm, ⟨88, _⟩ => ⟨S_, .bf16⟩
  | .hbm, ⟨89, _⟩ => ⟨S_, .bf16⟩
  | .hbm, ⟨90, _⟩ => ⟨S5632x2048, .bf16⟩
  | .hbm, ⟨91, _⟩ => ⟨S5632x2048, .bf16⟩
  | .hbm, ⟨92, _⟩ => ⟨S5632x2048, .bf16⟩
  | .hbm, ⟨93, _⟩ => ⟨S5632x2048, .bf16⟩
  | .hbm, ⟨94, _⟩ => ⟨S5632x2048, .bf16⟩
  | .hbm, ⟨95, _⟩ => ⟨S5632x2048, .bf16⟩
  | .hbm, ⟨96, _⟩ => ⟨S5632x2048, .bf16⟩
  | .hbm, ⟨97, _⟩ => ⟨S5632x2048, .bf16⟩
  | .hbm, ⟨98, _⟩ => ⟨S5632x2048, .bf16⟩
  | .hbm, ⟨99, _⟩ => ⟨S5632x2048, .bf16⟩
  | .hbm, ⟨100, _⟩ => ⟨S5632x32x64, .bf16⟩
  | .hbm, ⟨101, _⟩ => ⟨S5632x32x1, .bf16⟩
  | .hbm, ⟨102, _⟩ => ⟨S5632x32x64, .bf16⟩
  | .hbm, ⟨103, _⟩ => ⟨S5632x32x64, .bf16⟩
  | .hbm, ⟨104, _⟩ => ⟨S5632x2048, .bf16⟩
  | .hbm, ⟨105, _⟩ => ⟨S8x1024x5632, .f32⟩
  | .hbm, ⟨106, _⟩ => ⟨S8x1024x5632, .bf16⟩
  | .hbm, ⟨107, _⟩ => ⟨S8192x5632, .bf16⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_c_9 : Ref sig .tc := ⟨.hbm, 50, rfl⟩
abbrev main_v35 : Ref sig .tc := ⟨.hbm, 51, rfl⟩
abbrev main_v36 : Ref sig .tc := ⟨.hbm, 52, rfl⟩
abbrev main_cst : Ref sig .tc := ⟨.hbm, 53, rfl⟩
abbrev main_cst_10 : Ref sig .tc := ⟨.hbm, 54, rfl⟩
abbrev main_call0_v0 : Ref sig .tc := ⟨.hbm, 55, rfl⟩
abbrev main_call0_v1 : Ref sig .tc := ⟨.hbm, 56, rfl⟩
abbrev main_v37 : Ref sig .tc := ⟨.hbm, 57, rfl⟩
abbrev main_cst_11 : Ref sig .tc := ⟨.hbm, 58, rfl⟩
abbrev main_cst_12 : Ref sig .tc := ⟨.hbm, 59, rfl⟩
abbrev main_call1_v0 : Ref sig .tc := ⟨.hbm, 60, rfl⟩
abbrev main_call1_v1 : Ref sig .tc := ⟨.hbm, 61, rfl⟩
abbrev main_v38 : Ref sig .tc := ⟨.hbm, 62, rfl⟩
abbrev main_cst_13 : Ref sig .tc := ⟨.hbm, 63, rfl⟩
abbrev main_cst_14 : Ref sig .tc := ⟨.hbm, 64, rfl⟩
abbrev main_call2_v0 : Ref sig .tc := ⟨.hbm, 65, rfl⟩
abbrev main_call2_v1 : Ref sig .tc := ⟨.hbm, 66, rfl⟩
abbrev main_v39 : Ref sig .tc := ⟨.hbm, 67, rfl⟩
abbrev main_cst_15 : Ref sig .tc := ⟨.hbm, 68, rfl⟩
abbrev main_cst_16 : Ref sig .tc := ⟨.hbm, 69, rfl⟩
abbrev main_call3_v0 : Ref sig .tc := ⟨.hbm, 70, rfl⟩
abbrev main_call3_v1 : Ref sig .tc := ⟨.hbm, 71, rfl⟩
abbrev main_v40 : Ref sig .tc := ⟨.hbm, 72, rfl⟩
abbrev main_cst_17 : Ref sig .tc := ⟨.hbm, 73, rfl⟩
abbrev main_cst_18 : Ref sig .tc := ⟨.hbm, 74, rfl⟩
abbrev main_call4_v0 : Ref sig .tc := ⟨.hbm, 75, rfl⟩
abbrev main_call4_v1 : Ref sig .tc := ⟨.hbm, 76, rfl⟩
abbrev main_v41 : Ref sig .tc := ⟨.hbm, 77, rfl⟩
abbrev main_cst_19 : Ref sig .tc := ⟨.hbm, 78, rfl⟩
abbrev main_cst_20 : Ref sig .tc := ⟨.hbm, 79, rfl⟩
abbrev main_call5_v0 : Ref sig .tc := ⟨.hbm, 80, rfl⟩
abbrev main_call5_v1 : Ref sig .tc := ⟨.hbm, 81, rfl⟩
abbrev main_v42 : Ref sig .tc := ⟨.hbm, 82, rfl⟩
abbrev main_cst_21 : Ref sig .tc := ⟨.hbm, 83, rfl⟩
abbrev main_cst_22 : Ref sig .tc := ⟨.hbm, 84, rfl⟩
abbrev main_call6_v0 : Ref sig .tc := ⟨.hbm, 85, rfl⟩
abbrev main_call6_v1 : Ref sig .tc := ⟨.hbm, 86, rfl⟩
abbrev main_v43 : Ref sig .tc := ⟨.hbm, 87, rfl⟩
abbrev main_cst_23 : Ref sig .tc := ⟨.hbm, 88, rfl⟩
abbrev main_cst_24 : Ref sig .tc := ⟨.hbm, 89, rfl⟩
abbrev main_call7_v0 : Ref sig .tc := ⟨.hbm, 90, rfl⟩
abbrev main_call7_v1 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩

abbrev nD : Nat := 1
abbrev τ : Topo := Topo.v7x

variable {F : FTy → Type} [FloatOps F]
-- ==== Proof.Slab.lean ====
module

public import proofs.«01_k».proof.Proof.Gen.KernelIdeal.Value

@[expose] public section

set_option maxRecDepth 8192

noncomputable section

/-!
What one trip of the dequantising loop stores: sixteen slabs of 64 rows by 128 columns of the weight tile, each the
same function of the packed words and the row scales. A slab is written once here, as a function of the half of the
words it reads and of the first column group of scales it reads.
-/

namespace Cert.KernelIdeal.Tile

open Idealize.ShloMosaic Idealize.ShloMosaic.TcCoe Idealize.ShloMosaic.Tactic Idealize.SL.Sem
open Cert.KernelIdeal Cert.KernelIdeal.Gen

variable {F : FTy → Type} [FloatOps F]

/-- The sixteen values of the four bit code, selected by the code's bits `b0` (lowest) to `b3` in vector form. -/
def look (b0 b1 b2 b3 : IVec S64x128 1) : FVec F S64x128 .bf16 :=
  select b3
    (select b2
      (select b1 (select b0 (broadcast S64x128 (Scalar.ofBits .bf16 0x3F80#16)) (broadcast S64x128 (Scalar.ofBits .bf16 0x3F39#16)))
        (select b0 (broadcast S64x128 (Scalar.ofBits .bf16 0x3F10#16)) (broadcast S64x128 (Scalar.ofBits .bf16 0x3EE2#16))))
      (select b1 (select b0 (broadcast S64x128 (Scalar.ofBits .bf16 0x3EAD#16)) (broadcast S64x128 (Scalar.ofBits .bf16 0x3E7C#16)))
        (select b0 (broadcast S64x128 (Scalar.ofBits .bf16 0x3E25#16)) (broadcast S64x128 (Scalar.ofBits .bf16 0x3DA3#16)))))
    (select b2
      (select b1 (select b0 (broadcast S64x128 (Scalar.ofBits .bf16 0x0000#16)) (broadcast S64x128 (Scalar.ofBits .bf16 0xBDBA#16)))
        (select b0 (broadcast S64x128 (Scalar.ofBits .bf16 0xBE3D#16)) (broadcast S64x128 (Scalar.ofBits .bf16 0xBE92#16))))
      (select b1 (select b0 (broadcast S64x128 (Scalar.ofBits .bf16 0xBECA#16)) (broadcast S64x128 (Scalar.ofBits .bf16 0xBF06#16)))
        (select b0 (broadcast S64x128 (Scalar.ofBits .bf16 0xBF32#16)) (broadcast S64x128 (Scalar.ofBits .bf16 0xBF80#16)))))

/-- The column of the packed words that each lane reads, before the half is added: the lane halved. -/
def halfLane : IVec S16x128 32 := k0_pay3

/-- How far each lane shifts its word right: 4 on even lanes, 0 on odd ones. -/
def shiftBy : IVec S16x128 32 :=
  k0_pay8 (Scalar.select (Scalar.cmpi .eq 2#32 0#32) 1#32 2#32) k0_pay4 k0_pay5 k0_pay6 k0_pay7

/-- The group of 64 columns that each lane lies in: 0 or 1. -/
def group : IVec S64x128 32 := k0_pay19 k0_pay16 k0_pay17 k0_pay18

/-- The column the words are read at: `halfLane` plus the half's first column `oh`, wrapped once if negative. -/
def wordCol (oh : BitVec 32) : IVec S16x128 32 :=
  shapeCast S16x128 (shapeCast S16x128x1
    (select (cmpi .slt (addi halfLane (broadcast S16x128 oh)) (broadcast S16x128 0#32))
      (addi (addi halfLane (broadcast S16x128 oh)) (broadcast S16x128 128#32)) (addi halfLane (broadcast S16x128 oh)))
    shapeCasts_S16x128_S16x128x1) shapeCasts_S16x128x1_S16x128

/-- The column the row scales are read at: `group` plus the slab's first group `ok`, wrapped once if negative. -/
def scaleCol (ok : BitVec 32) : IVec S64x128 32 :=
  shapeCast S64x128 (shapeCast S64x128x1
    (select (cmpi .slt (addi group (broadcast S64x128 ok)) (broadcast S64x128 0#32))
      (addi (addi group (broadcast S64x128 ok)) (broadcast S64x128 128#32)) (addi group (broadcast S64x128 ok)))
    shapeCasts_S64x128_S64x128x1) shapeCasts_S64x128x1_S64x128

/-- The codes of a slab, in the low four bits of each element: four rows of bytes at a time are moved along the lanes as
    one word and shifted right by 4 on even lanes. -/
def codes (w : Vec F S64x128 .i8) (oh : BitVec 32) : IVec S64x128 16 :=
  extui 16 (bitcast S64x128 8 (shrui (dynamicGather 1 (bitcast S16x128 32 w bitcasts_S64x128_w8_S16x128_w32) (wordCol oh)) shiftBy)
    bitcasts_S16x128_w32_S64x128_w8) natLt_8_16

/-- The bit of the codes that the mask `q` selects. -/
def codeBit (w : Vec F S64x128 .i8) (oh : BitVec 32) (q : BitVec 16) : IVec S64x128 1 :=
  cmpi .ne (andi (codes w oh) (broadcast S64x128 q)) (broadcast S64x128 0#16)

/-- One slab: the code's value times the row scale of its group of columns. -/
def slab (a : FVec F S64x128 .f32) (w : Vec F S64x128 .i8) (oh ok : BitVec 32) : FVec F S64x128 .bf16 :=
  shapeCast S64x128 (mulf (look (codeBit w oh 1#16) (codeBit w oh 2#16) (codeBit w oh 4#16) (codeBit w oh 8#16))
    (truncf .bf16 (dynamicGather 1 a (scaleCol ok)) bitsLt_bf16_f32)) shapeCasts_S64x128_S64x128

/-- Eight rows of scales: the row's codes `q`, as floats, times the rows' one factor `s`, plus the offset. -/
def scaleRows (off : Elt F .f32) (q : FVec F S64x32 .f32) (s : Elt F .f32) (o : Fin 2 → ℕ) (ho : S64x32.Slices o S8x32) : FVec F S8x32 .f32 :=
  addf (mulf (extractStridedSlice S8x32 o q ho) (broadcast S8x32 s)) (broadcast S8x32 off)

/-- The scales of 64 rows, eight rows per factor. -/
def scales32 (off : Elt F .f32) (q : Vec F S64x32 .i8) (s0 s1 s2 s3 s4 s5 s6 s7 : Elt F .f32) : FVec F S64x32 .bf16 :=
  truncf .bf16 (concatenate S64x32 0
    [⟨S8x32, scaleRows off (sitofp .f32 q) s0 ![0, 0] slices_S64x32_o0_0_S8x32⟩, ⟨S8x32, scaleRows off (sitofp .f32 q) s1 ![8, 0] slices_S64x32_o8_0_S8x32⟩,
     ⟨S8x32, scaleRows off (sitofp .f32 q) s2 ![16, 0] slices_S64x32_o16_0_S8x32⟩, ⟨S8x32, scaleRows off (sitofp .f32 q) s3 ![24, 0] slices_S64x32_o24_0_S8x32⟩,
     ⟨S8x32, scaleRows off (sitofp .f32 q) s4 ![32, 0] slices_S64x32_o32_0_S8x32⟩, ⟨S8x32, scaleRows off (sitofp .f32 q) s5 ![40, 0] slices_S64x32_o40_0_S8x32⟩,
     ⟨S8x32, scaleRows off (sitofp .f32 q) s6 ![48, 0] slices_S64x32_o48_0_S8x32⟩, ⟨S8x32, scaleRows off (sitofp .f32 q) s7 ![56, 0] slices_S64x32_o56_0_S8x32⟩]
    concatenates_S8x32_S8x32_S8x32_S8x32_S8x32_S8x32_S8x32_S8x32_S64x32_d0) bitsLt_bf16_f32

/-- Those scales repeated four times along the lanes. -/
def scales64 (t : FVec F S64x32 .bf16) : FVec F S64x128 .f32 :=
  extf .f32 (concatenate S64x128 1 [⟨S64x32, t⟩, ⟨S64x32, t⟩, ⟨S64x32, t⟩, ⟨S64x32, t⟩]
    concatenates_S64x32_S64x32_S64x32_S64x32_S64x128_d1) bitsLt_bf16_f32

/-- The factor of rows `8 r` to `8 r + 7` of trip `k`, as the trip reads it. -/
def factor (i : grid0.Coords) (arg2 : Memref sig .tc .smem S704 .f32) (k0_h1 : k0_cond1 i = 1#1)
    (X2 : BufTy.Contents (Elt F) arg2.view.ty) (k : Fin k0_t1_loop.trips) (r : Fin 8) : Elt F .f32 :=
  arg2.view.readAt (Elt F) (Rect.unit (s := S704) (k0_off2 i k (BitVec.ofNat 32 r.val)) S1.size (k0_off2_inb i k k0_h1 r)).toLoadRect X2
    (Shape.Idx.first (numel1_S1 ▸ Nat.one_pos))

/-- The row scales of trip `k`, from what the scale, offset and code buffers hold. -/
def rowScales (i : grid0.Coords) (arg2 : Memref sig .tc .smem S704 .f32) (arg3 : Memref sig .tc .smem S1 .f32)
    (arg6 : Memref sig .tc .vmem S512x32 .i8) (k0_h1 : k0_cond1 i = 1#1) (X2 : BufTy.Contents (Elt F) arg2.view.ty)
    (X3 : BufTy.Contents (Elt F) arg3.view.ty) (X6 : BufTy.Contents (Elt F) arg6.view.ty) (k : Fin k0_t1_loop.trips) : FVec F S64x128 .f32 :=
  scales64 (scales32 (arg3.view.readAt (Elt F) (Rect.unit (s := S1) ![0] S1.size inb_S1_S1_0).toLoadRect X3 (Shape.Idx.first (numel1_S1 ▸ Nat.one_pos)))
    (arg6.view.readAt (Elt F) (Rect.unit (s := S512x32) (k0_off1 k) S64x32.size (k0_off1_inb i k k0_h1)).toLoadRect X6)
    (factor i arg2 k0_h1 X2 k 0) (factor i arg2 k0_h1 X2 k 1) (factor i arg2 k0_h1 X2 k 2) (factor i arg2 k0_h1 X2 k 3)
    (factor i arg2 k0_h1 X2 k 4) (factor i arg2 k0_h1 X2 k 5) (factor i arg2 k0_h1 X2 k 6) (factor i arg2 k0_h1 X2 k 7))

/-- The packed words at offsets `o` of their block. -/
def words (arg5 : Memref sig .tc .vmem S512x1024 .i8) (o : Fin 2 → ℕ) (ho : ∀ a, o a + S64x128.size a ≤ S512x1024.size a)
    (X5 : BufTy.Contents (Elt F) arg5.view.ty) : Vec F S64x128 .i8 :=
  arg5.view.readAt (Elt F) (Rect.unit (s := S512x1024) o S64x128.size ho).toLoadRect X5

/-- The sixteen slabs one trip stores, the last first. -/
theorem tripL_eq (𝒱 : Variants) (c : Dev nD) (bd : Option 𝒱.V) (i : grid0.Coords) (arg2 : Memref sig .tc .smem S704 .f32) (harg2 : arg2.IsWhole) (arg3 : Memref sig .tc .smem S1 .f32) (harg3 : arg3.IsWhole) (arg4 : Memref sig .tc .vmem S1024x2048 .bf16) (harg4 : arg4.IsWhole) (arg5 : Memref sig .tc .vmem S512x1024 .i8) (harg5 : arg5.IsWhole) (arg6 : Memref sig .tc .vmem S512x32 .i8) (harg6 : arg6.IsWhole) (arg7 : Memref sig .tc .vmem S1024x512 .bf16) (harg7 : arg7.IsWhole) (arg8 : Memref sig .tc .vmem S512x2048 .bf16) (harg8 : arg8.IsWhole) (arg0 : BitVec 32) (k0_h1 : k0_cond1 i = 1#1)
    (X2 : BufTy.Contents (Elt F) arg2.view.ty) (X3 : BufTy.Contents (Elt F) arg3.view.ty) (X5 : BufTy.Contents (Elt F) arg5.view.ty) (X6 : BufTy.Contents (Elt F) arg6.view.ty) (k : Fin k0_t1_loop.trips) :
    tripL_k0_t1 (F := F) 𝒱 c bd i arg2 harg2 arg3 harg3 arg4 harg4 arg5 harg5 arg6 harg6 arg7 harg7 arg8 harg8 arg0 k0_h1 X2 X3 X5 X6 k = [
      ⟨Rect.unit (k0_off26 k) S64x128.size (k0_off26_inb i k k0_h1),
        slab (rowScales i arg2 arg3 arg6 k0_h1 X2 X3 X6 k) (words arg5 (k0_off24 k) (k0_off24_inb i k k0_h1) X5) 64#32 30#32⟩,
      ⟨Rect.unit (k0_off25 k) S64x128.size (k0_off25_inb i k k0_h1),
        slab (rowScales i arg2 arg3 arg6 k0_h1 X2 X3 X6 k) (words arg5 (k0_off24 k) (k0_off24_inb i k k0_h1) X5) 0#32 28#32⟩,
      ⟨Rect.unit (k0_off23 k) S64x128.size (k0_off23_inb i k k0_h1),
        slab (rowScales i arg2 arg3 arg6 k0_h1 X2 X3 X6 k) (words arg5 (k0_off21 k) (k0_off21_inb i k k0_h1) X5) 64#32 26#32⟩,
      ⟨Rect.unit (k0_off22 k) S64x128.size (k0_off22_inb i k k0_h1),
        slab (rowScales i arg2 arg3 arg6 k0_h1 X2 X3 X6 k) (words arg5 (k0_off21 k) (k0_off21_inb i k k0_h1) X5) 0#32 24#32⟩,
      ⟨Rect.unit (k0_off20 k) S64x128.size (k0_off20_inb i k k0_h1),
        slab (rowScales i arg2 arg3 arg6 k0_h1 X2 X3 X6 k) (words arg5 (k0_off18 k) (k0_off18_inb i k k0_h1) X5) 64#32 22#32⟩,
      ⟨Rect.unit (k0_off19 k) S64x128.size (k0_off19_inb i k k0_h1),
        slab (rowScales i arg2 arg3 arg6 k0_h1 X2 X3 X6 k) (words arg5 (k0_off18 k) (k0_off18_inb i k k0_h1) X5) 0#32 20#32⟩,
      ⟨Rect.unit (k0_off17 k) S64x128.size (k0_off17_inb i k k0_h1),
        slab (rowScales i arg2 arg3 arg6 k0_h1 X2 X3 X6 k) (words arg5 (k0_off15 k) (k0_off15_inb i k k0_h1) X5) 64#32 18#32⟩,
      ⟨Rect.unit (k0_off16 k) S64x128.size (k0_off16_inb i k k0_h1),
        slab (rowScales i arg2 arg3 arg6 k0_h1 X2 X3 X6 k) (words arg5 (k0_off15 k) (k0_off15_inb i k k0_h1) X5) 0#32 16#32⟩,
      ⟨Rect.unit (k0_off14 k) S64x128.size (k0_off14_inb i k k0_h1),
        slab (rowScales i arg2 arg3 arg6 k0_h1 X2 X3 X6 k) (words arg5 (k0_off12 k) (k0_off12_inb i k k0_h1) X5) 64#32 14#32⟩,
      ⟨Rect.unit (k0_off13 k) S64x128.size (k0_off13_inb i k k0_h1),
        slab (rowScales i arg2 arg3 arg6 k0_h1 X2 X3 X6 k) (words arg5 (k0_off12 k) (k0_off12_inb i k k0_h1) X5) 0#32 12#32⟩,
      ⟨Rect.unit (k0_off11 k) S64x128.size (k0_off11_inb i k k0_h1),
        slab (rowScales i arg2 arg3 arg6 k0_h1 X2 X3 X6 k) (words arg5 (k0_off9 k) (k0_off9_inb i k k0_h1) X5) 64#32 10#32⟩,
      ⟨Rect.unit (k0_off10 k) S64x128.size (k0_off10_inb i k k0_h1),
        slab (rowScales i arg2 arg3 arg6 k0_h1 X2 X3 X6 k) (words arg5 (k0_off9 k) (k0_off9_inb i k k0_h1) X5) 0#32 8#32⟩,
      ⟨Rect.unit (k0_off8 k) S64x128.size (k0_off8_inb i k k0_h1),
        slab (rowScales i arg2 arg3 arg6 k0_h1 X2 X3 X6 k) (words arg5 (k0_off6 k) (k0_off6_inb i k k0_h1) X5) 64#32 6#32⟩,
      ⟨Rect.unit (k0_off7 k) S64x128.size (k0_off7_inb i k k0_h1),
        slab (rowScales i arg2 arg3 arg6 k0_h1 X2 X3 X6 k) (words arg5 (k0_off6 k) (k0_off6_inb i k k0_h1) X5) 0#32 4#32⟩,
      ⟨Rect.unit (k0_off5 k) S64x128.size (k0_off5_inb i k k0_h1),
        slab (rowScales i arg2 arg3 arg6 k0_h1 X2 X3 X6 k) (words arg5 (k0_off3 k) (k0_off3_inb i k k0_h1) X5) 64#32 2#32⟩,
      ⟨Rect.unit (k0_off4 k) S64x128.size (k0_off4_inb i k k0_h1),
        slab (rowScales i arg2 arg3 arg6 k0_h1 X2 X3 X6 k) (words arg5 (k0_off3 k) (k0_off3_inb i k k0_h1) X5) 0#32 0#32⟩] := by
  sl_kernel_rfl

end Cert.KernelIdeal.Tile

end
-- ==== Proof.Weight.lean ====
module

public import Idealize.ShloMosaic.Lib.Pointwise

@[expose] public section

noncomputable section

/-!
What both programs compute: a weight is the value of a four bit code times the row scale of its group of 64 columns, and
the result is the input times the transposed weights.
-/

namespace Nf4

open Idealize.ShloMosaic

/-- The sixteen values of the code with bits `b0` (lowest) to `b3`. -/
def table {F : FTy → Type} [FloatOps F] (b0 b1 b2 b3 : BitVec 1) : F .bf16 :=
  Scalar.select b3
    (Scalar.select b2
      (Scalar.select b1 (Scalar.select b0 (Scalar.ofBits .bf16 0x3F80#16) (Scalar.ofBits .bf16 0x3F39#16))
        (Scalar.select b0 (Scalar.ofBits .bf16 0x3F10#16) (Scalar.ofBits .bf16 0x3EE2#16)))
      (Scalar.select b1 (Scalar.select b0 (Scalar.ofBits .bf16 0x3EAD#16) (Scalar.ofBits .bf16 0x3E7C#16))
        (Scalar.select b0 (Scalar.ofBits .bf16 0x3E25#16) (Scalar.ofBits .bf16 0x3DA3#16))))
    (Scalar.select b2
      (Scalar.select b1 (Scalar.select b0 (Scalar.ofBits .bf16 0x0000#16) (Scalar.ofBits .bf16 0xBDBA#16))
        (Scalar.select b0 (Scalar.ofBits .bf16 0xBE3D#16) (Scalar.ofBits .bf16 0xBE92#16)))
      (Scalar.select b1 (Scalar.select b0 (Scalar.ofBits .bf16 0xBECA#16) (Scalar.ofBits .bf16 0xBF06#16))
        (Scalar.select b0 (Scalar.ofBits .bf16 0xBF32#16) (Scalar.ofBits .bf16 0xBF80#16))))

/-- Where in its byte the code of column `j` starts: a byte holds two codes, the high one for the even column. -/
def nib (j : ℕ) : ℕ := if j % 2 = 0 then 4 else 0

/-- The value of the code of column `j` in the byte `v`. -/
def code {F : FTy → Type} [FloatOps F] (v : BitVec 8) (j : ℕ) : F .bf16 :=
  table (BitVec.ofBool (v.getLsbD (0 + nib j))) (BitVec.ofBool (v.getLsbD (1 + nib j)))
    (BitVec.ofBool (v.getLsbD (2 + nib j))) (BitVec.ofBool (v.getLsbD (3 + nib j)))

/-- A row scale, from its own code `q`, the factor `s` of its group and the offset `off`. -/
def scale (q : BitVec 8) (s off : EReal) : EReal := ((q.toInt : ℝ) : EReal) * s + off

/-- The weight of column `j`: the code's value times the row scale. -/
def weight (v : BitVec 8) (j : ℕ) (q : BitVec 8) (s off : EReal) : EReal := code (F := Ideal) v j * scale q s off

/-- The weight of output `o` at input `k`, from the packed bytes `p`, the scale codes `q`, the factors `s` (one for every
    eight rows, 256 scales) and the offset. -/
def weights (p : (⟨2, ![5632, 1024]⟩ : Shape).Idx → BitVec 8) (q : (⟨2, ![5632, 32]⟩ : Shape).Idx → BitVec 8)
    (s : (⟨1, ![704]⟩ : Shape).Idx → EReal) (off : (⟨0, ![]⟩ : Shape).Idx → EReal) (o : Fin 5632) (k : Fin 2048) : EReal :=
  weight (p (ix2 o ⟨k.val / 2, by omega⟩)) k.val (q (ix2 o ⟨k.val / 64, by omega⟩)) (s (ix1 ⟨o.val / 8, by omega⟩)) (off ix0)

/-- Input row `r` of batch `d` times the weights of output `o`. -/
def product (x : (⟨3, ![8, 1024, 2048]⟩ : Shape).Idx → EReal) (w : Fin 5632 → Fin 2048 → EReal) (d : Fin 8) (r : Fin 1024) (o : Fin 5632) : EReal :=
  ∑ k : Fin 2048, x (ix3 d r k) * w o k

end Nf4

end
-- ==== Proof.Words.lean ====
module

public import proofs.«01_k».proof.Proof.Slab
public import proofs.«01_k».proof.Proof.Weight
public import Idealize.ShloMosaic.Lib.Pointwise
public import Idealize.ShloMosaic.Lib.BitcastPair

@[expose] public section

set_option maxRecDepth 8192

noncomputable section

/-!
The integer part of a slab, read at an index: the columns it gathers at, the shift amounts, and the bits of its codes.
-/

namespace Cert.KernelIdeal.Tile

open Idealize.ShloMosaic Idealize.ShloMosaic.Tactic
open Cert.KernelIdeal Cert.KernelIdeal.Gen Nf4

variable {F : FTy → Type} [FloatOps F]

/-- Lane `l` of half `h` reads column `l / 2 + 64 h` of the words. -/
theorem wordCol_apply (h : Fin 2) (a : Fin 16) (l : Fin 128) :
    wordCol (BitVec.ofNat 32 (64 * h.val)) (ix2 a l) = BitVec.ofNat 32 (l.val / 2 + 64 * h.val) := by
  pointwise [wordCol, halfLane, k0_pay3]
  revert h l
  decide +kernel

/-- Even lanes shift by four, odd ones by nothing. -/
theorem shiftBy_apply (a : Fin 16) (l : Fin 128) : shiftBy (ix2 a l) = if l.val % 2 = 0 then 4#32 else 0#32 := by
  pointwise [shiftBy, k0_pay8, k0_pay4, k0_pay5, k0_pay6, k0_pay7]
  revert l
  decide +kernel

/-- Lane `l` of slab `s` reads column `l / 64 + 2 s` of the row scales. -/
theorem scaleCol_apply (s : Fin 16) (r : Fin 64) (l : Fin 128) :
    scaleCol (BitVec.ofNat 32 (2 * s.val)) (ix2 r l) = BitVec.ofNat 32 (l.val / 64 + 2 * s.val) := by
  pointwise [scaleCol, group, k0_pay16, k0_pay17, k0_pay18, k0_pay19]
  revert s l
  decide +kernel

/-- Where a word of four bytes lies: bit `q` of word row `a` is bit `q % 8` of byte row `4 a + q / 8`. -/
theorem wordBit (w : S64x128.Idx → BitVec 8) (a : Fin 16) (l : Fin 128) (q : ℕ) (hq : q < 32) (r : Fin 64) (hr : r.val = 4 * a.val + q / 8) :
    (bitcast S16x128 32 w bitcasts_S64x128_w8_S16x128_w32 (ix2 a l)).getLsbD q = (w (ix2 r l)).getLsbD (q % 8) := by
  rw [bitcast_getLsbD w _ _ q hq (by decide)]
  have hrow : S16x128.row (ix2 a l) = a.val := rfl
  congr 1
  · refine congrArg w (funext fun b => Fin.ext ?_)
    match b with
    | ⟨0, _⟩ => rw [Shape.Bitcasts.srcIdx_row _ _ _ _ _ (by rfl), hrow]; show _ = r.val; omega
    | ⟨1, _⟩ => rw [Shape.Bitcasts.srcIdx_other _ _ _ _ _ (by simp +decide)]; rfl
  · rw [hrow]; omega

/-- Where a byte of a word lies: bit `q` of byte row `r` is bit `8 (r % 4) + q` of word row `r / 4`. -/
theorem byteBit (w : S16x128.Idx → BitVec 32) (r : Fin 64) (l : Fin 128) (q : ℕ) (hq : q < 8) (a : Fin 16) (ha : a.val = r.val / 4) :
    (bitcast S64x128 8 w bitcasts_S16x128_w32_S64x128_w8 (ix2 r l)).getLsbD q = (w (ix2 a l)).getLsbD (8 * (r.val % 4) + q) := by
  rw [bitcast_getLsbD w _ _ q hq (by decide)]
  have hrow : S64x128.row (ix2 r l) = r.val := rfl
  congr 1
  · refine congrArg w (funext fun b => Fin.ext ?_)
    match b with
    | ⟨0, _⟩ => rw [Shape.Bitcasts.srcIdx_row _ _ _ _ _ (by rfl), hrow]; show _ = a.val; omega
    | ⟨1, _⟩ => rw [Shape.Bitcasts.srcIdx_other _ _ _ _ _ (by simp +decide)]; rfl
  · rw [hrow]; omega

/-- Words moved along the lanes: lane `l` is the lane that the index vector names. -/
theorem gather_apply (x : S16x128.Idx → BitVec 32) (idx : IVec S16x128 32) (a : Fin 16) (l : Fin 128) (n : Fin 128)
    (h : idx (ix2 a l) = BitVec.ofNat 32 n.val) : dynamicGather 1 x idx (ix2 a l) = x (ix2 a n) := by
  unfold dynamicGather
  refine congrArg x (funext fun b => Fin.ext ?_)
  match b with
  | ⟨0, _⟩ => rfl
  | ⟨1, _⟩ =>
    show (idx (ix2 a l)).toNat % 128 = n.val
    rw [h, BitVec.toNat_ofNat]
    omega

/-- A shift by less than 32. -/
theorem shrui_eq (x y : BitVec 32) (n : ℕ) (hn : n < 32) (h : y.toNat = n) : IntOp.shrui .vector x y = x >>> n := by
  subst h
  unfold IntOp.shrui
  rw [if_pos hn, BitVec.ushiftRight_eq']

/-- Words moved and shifted, read as bytes at a bit: the bit `n` places higher of the byte at lane `m`. -/
theorem movedBit (w : S64x128.Idx → BitVec 8) (idx sh : IVec S16x128 32) (r : Fin 64) (l m : Fin 128) (q n : ℕ) (hqn : q + n < 8)
    (hi : ∀ a : Fin 16, idx (ix2 a l) = BitVec.ofNat 32 m.val) (hs : ∀ a : Fin 16, (sh (ix2 a l)).toNat = n) :
    (bitcast S64x128 8 (shrui (dynamicGather 1 (bitcast S16x128 32 w bitcasts_S64x128_w8_S16x128_w32) idx) sh)
      bitcasts_S16x128_w32_S64x128_w8 (ix2 r l)).getLsbD q = (w (ix2 r m)).getLsbD (q + n) := by
  have ha : r.val / 4 < 16 := by omega
  rw [byteBit _ r l q (by omega) ⟨r.val / 4, ha⟩ rfl, shrui_apply, gather_apply _ idx _ l m (hi _),
    shrui_eq _ _ n (by omega) (hs _), BitVec.getLsbD_ushiftRight, wordBit w _ _ _ (by omega) r (by show r.val = 4 * (r.val / 4) + _; omega)]
  exact congrArg _ (by omega)

/-- A bit masked out of a word of sixteen and compared with zero. -/
theorem maskBit (x : BitVec 16) (q : ℕ) (hq : q < 16) :
    IntOp.cmpi .ne (IntOp.andi x (BitVec.twoPow 16 q)) 0#16 = BitVec.ofBool (x.getLsbD q) := by
  unfold IntOp.andi
  rw [BitVec.and_twoPow]
  cases x.getLsbD q
  · rfl
  · have h : ∀ q : Fin 16, IntOp.cmpi .ne (BitVec.twoPow 16 q.val) 0#16 = BitVec.ofBool true := by decide +kernel
    exact h ⟨q, hq⟩

/-- The bit of the codes that the mask `2 ^ q` selects, at lane `l` of half `h`: bit `q` of the code that the lane takes, in
    the byte at column `l / 2 + 64 h`. -/
theorem codeBit_apply (w : S64x128.Idx → BitVec 8) (h : Fin 2) (r : Fin 64) (l : Fin 128) (q : ℕ) (hq : q < 4) :
    codeBit (F := F) w (BitVec.ofNat 32 (64 * h.val)) (BitVec.twoPow 16 q) (ix2 r l)
      = BitVec.ofBool ((w (ix2 r ⟨l.val / 2 + 64 * h.val, by omega⟩)).getLsbD (q + nib l.val)) := by
  have hn : nib l.val ≤ 4 := by unfold nib; split <;> omega
  have hb := movedBit w (wordCol (BitVec.ofNat 32 (64 * h.val))) shiftBy r l ⟨l.val / 2 + 64 * h.val, by omega⟩ q (nib l.val) (by omega)
    (fun a => wordCol_apply h a l) (fun a => by rw [shiftBy_apply]; unfold nib; split <;> rfl)
  unfold codeBit codes
  pointwise
  rw [maskBit _ _ (by omega), BitVec.getLsbD_setWidth, hb]
  simp only [show q < 16 by omega, decide_true, Bool.true_and]

/-- The code's value at lane `l` of half `h`. -/
theorem look_apply (w : S64x128.Idx → BitVec 8) (h : Fin 2) (r : Fin 64) (l : Fin 128) (j : ℕ) (hj : j % 2 = l.val % 2) :
    look (F := F) (codeBit (F := F) w (BitVec.ofNat 32 (64 * h.val)) 1#16) (codeBit (F := F) w (BitVec.ofNat 32 (64 * h.val)) 2#16)
        (codeBit (F := F) w (BitVec.ofNat 32 (64 * h.val)) 4#16) (codeBit (F := F) w (BitVec.ofNat 32 (64 * h.val)) 8#16) (ix2 r l)
      = code (w (ix2 r ⟨l.val / 2 + 64 * h.val, by omega⟩)) j := by
  have e : nib j = nib l.val := by unfold nib; rw [hj]
  unfold code
  rw [e, ← codeBit_apply (F := F) w h r l 0 (by decide), ← codeBit_apply (F := F) w h r l 1 (by decide),
    ← codeBit_apply (F := F) w h r l 2 (by decide), ← codeBit_apply (F := F) w h r l 3 (by decide)]
  rfl

/-- The scale row gathered at a slab's columns: lane `l` of slab `s` reads column `l / 64 + 2 s`. -/
theorem scaleGather_apply (x : FVec F S64x128 .f32) (s : Fin 16) (r : Fin 64) (l : Fin 128) :
    dynamicGather 1 x (scaleCol (BitVec.ofNat 32 (2 * s.val))) (ix2 r l) = x (ix2 r ⟨l.val / 64 + 2 * s.val, by omega⟩) := by
  unfold dynamicGather
  refine congrArg x (funext fun b => Fin.ext ?_)
  match b with
  | ⟨0, _⟩ => rfl
  | ⟨1, _⟩ =>
    show (scaleCol _ (ix2 r l)).toNat % 128 = l.val / 64 + 2 * s.val
    rw [scaleCol_apply, BitVec.toNat_ofNat]
    omega

end Cert.KernelIdeal.Tile

end
-- ==== Proof.Tile.lean ====
module

public import proofs.«01_k».proof.Proof.Words

@[expose] public section

set_option maxRecDepth 8192

noncomputable section

/-!
The weight tile: what the eight trips of the dequantising loop leave in the scratch is one function of the blocks that
the grid point reads, at every row and column.
-/

namespace Cert.KernelIdeal.Tile

open Idealize.ShloMosaic Idealize.ShloMosaic.TcCoe Idealize.ShloMosaic.Tactic Idealize.SL.Sem
open Cert.KernelIdeal Cert.KernelIdeal.Gen Nf4

/-- The scales of 64 rows at row `r` and column `l`: the code there times the factor of the row's group of eight, plus the
    offset. -/
theorem scales32_apply (off : EReal) (q : S64x32.Idx → BitVec 8) (s : Fin 8 → EReal) (r : Fin 64) (l : Fin 32) :
    scales32 (F := Ideal) off q (s 0) (s 1) (s 2) (s 3) (s 4) (s 5) (s 6) (s 7) (ix2 r l)
      = scale (q (ix2 r l)) (s ⟨r.val / 8, by omega⟩) off := by
  pointwise [scales32, scaleRows, scale]
  have key : ∀ (r' : Fin 64) (g : Fin 8), r' = r → g = ⟨r.val / 8, by omega⟩ →
      FloatOps.sitofp (F := Ideal) .f32 (q (ix2 r' l)) * s g + off = ((q (ix2 r l)).toInt : ℝ) * s ⟨r.val / 8, by omega⟩ + off := by
    rintro _ _ rfl rfl; rfl
  split_ifs <;> exact key _ _ (Fin.ext (by simp; try omega)) (Fin.ext (by simp; omega))

/-- The first of the four copies. -/
theorem scales64_apply (t : FVec Ideal S64x32 .bf16) (r : Fin 64) (l : Fin 128) (hl : l.val < 32) :
    scales64 t (ix2 r l) = t (ix2 r ⟨l.val, hl⟩) := by
  pointwise [scales64]
  rw [dif_pos hl]

/-- One element of a slab: the weight of its column, from the byte, the row's scale code and the row's factor. -/
theorem slab_apply (off : EReal) (q : S64x32.Idx → BitVec 8) (s : Fin 8 → EReal) (w : S64x128.Idx → BitVec 8) (c : Fin 8) (h : Fin 2)
    (r : Fin 64) (l : Fin 128) (j : ℕ) (hj : j = l.val + 128 * (2 * c.val + h.val)) :
    slab (F := Ideal) (scales64 (scales32 (F := Ideal) off q (s 0) (s 1) (s 2) (s 3) (s 4) (s 5) (s 6) (s 7))) w
        (BitVec.ofNat 32 (64 * h.val)) (BitVec.ofNat 32 (2 * (2 * c.val + h.val))) (ix2 r l)
      = weight (w (ix2 r ⟨l.val / 2 + 64 * h.val, by omega⟩)) j (q (ix2 r ⟨j / 64, by omega⟩)) (s ⟨r.val / 8, by omega⟩) off := by
  unfold slab weight
  rw [shapeCast_self, mulf_apply, truncf_apply, look_apply w h r l j (by omega),
    scaleGather_apply _ ⟨2 * c.val + h.val, by omega⟩ r l, scales64_apply _ r _ (by show l.val / 64 + 2 * (2 * c.val + h.val) < 32; omega),
    scales32_apply]
  have e : (⟨l.val / 64 + 2 * (2 * c.val + h.val), by omega⟩ : Fin 32) = ⟨j / 64, by omega⟩ := Fin.ext (by show l.val / 64 + 2 * (2 * c.val + h.val) = j / 64; omega)
  rw [← e]
  rfl

/-- The weight tile of the column group `n`: row `r`, column `j`, from the blocks of factors, offset, bytes and codes. -/
def tile (n : Fin 11) (x0 : Vec Ideal S704 .f32) (x1 : Vec Ideal S1 .f32) (x3 : Vec Ideal S512x1024 .i8) (x4 : Vec Ideal S512x32 .i8) :
    S512x2048.Idx → EReal := fun y =>
  weight (x3 (ix2 (y 0) ⟨(y 1).val / 2, by have h : (y 1).val < 2048 := (y 1).isLt; omega⟩)) (y 1).val
    (x4 (ix2 (y 0) ⟨(y 1).val / 64, by have h : (y 1).val < 2048 := (y 1).isLt; omega⟩))
    (x0 (ix1 ⟨64 * n.val + (y 0).val / 8, by have h : (y 0).val < 512 := (y 0).isLt; omega⟩)) (x1 (ix1 0))

/-- The packed bytes a slab reads, as elements of their block. -/
theorem words_apply (arg5 : Memref sig .tc .vmem S512x1024 .i8) (harg5 : arg5.IsWhole) (x3 : Vec Ideal S512x1024 .i8) (a b : ℕ)
    (ho : ∀ d, (![a, b] : Fin 2 → ℕ) d + S64x128.size d ≤ S512x1024.size d) (r : Fin 64) (l : Fin 128) (y : S512x1024.Idx)
    (h0 : a + r.val = (y 0).val) (h1 : b + l.val = (y 1).val) :
    words arg5 ![a, b] ho (harg5.unread x3) (ix2 r l) = x3 y := by
  show arg5.view.read (Elt Ideal) (harg5.unread x3) ((Rect.unit (s := S512x1024) ![a, b] S64x128.size ho).idx (ix2 r l)) = _
  rw [harg5.read_unread]
  refine congrArg x3 (funext fun d => Fin.ext ?_)
  match d with
  | ⟨0, _⟩ => show a + 1 * r.val = _; rw [Nat.one_mul]; exact h0
  | ⟨1, _⟩ => show b + 1 * l.val = _; rw [Nat.one_mul]; exact h1

/-- The scale codes of a trip's rows, as elements of their block. -/
theorem codes_apply (i : grid0.Coords) (arg6 : Memref sig .tc .vmem S512x32 .i8) (harg6 : arg6.IsWhole) (k0_h1 : k0_cond1 i = 1#1) (x4 : Vec Ideal S512x32 .i8)
    (k : Fin k0_t1_loop.trips) (r : Fin 64) (l : Fin 32) (y : S512x32.Idx)
    (h0 : 64 * k.val + r.val = (y 0).val) (h1 : l.val = (y 1).val) :
    arg6.view.readAt (Elt Ideal) (Rect.unit (s := S512x32) (k0_off1 k) S64x32.size (k0_off1_inb i k k0_h1)).toLoadRect (harg6.unread x4) (ix2 r l) = x4 y := by
  show arg6.view.read (Elt Ideal) (harg6.unread x4) ((Rect.unit (s := S512x32) (k0_off1 k) S64x32.size (k0_off1_inb i k k0_h1)).idx (ix2 r l)) = _
  rw [harg6.read_unread]
  refine congrArg x4 (funext fun d => Fin.ext ?_)
  have e := k0_off1_eq k
  match d with
  | ⟨0, _⟩ => show k0_off1 k 0 + 1 * r.val = _; rw [e, Nat.one_mul]; exact h0
  | ⟨1, _⟩ => show k0_off1 k 1 + 1 * l.val = _; rw [e, Nat.one_mul]; exact (Nat.zero_add _).trans h1

/-- The factor of eight rows, as an element of the list of factors. -/
theorem factor_apply (i : grid0.Coords) (arg2 : Memref sig .tc .smem S704 .f32) (harg2 : arg2.IsWhole) (k0_h1 : k0_cond1 i = 1#1) (x0 : Vec Ideal S704 .f32)
    (k : Fin k0_t1_loop.trips) (r : Fin 8) (y : S704.Idx) (h0 : 64 * (i 0).val + 8 * k.val + r.val = (y 0).val) :
    factor (F := Ideal) i arg2 k0_h1 (harg2.unread x0) k r = x0 y := by
  show arg2.view.read (Elt Ideal) (harg2.unread x0) ((Rect.unit (s := S704) (k0_off2 i k (BitVec.ofNat 32 r.val)) S1.size (k0_off2_inb i k k0_h1 r)).idx
    (Shape.Idx.first (numel1_S1 ▸ Nat.one_pos))) = _
  rw [harg2.read_unread]
  refine congrArg x0 (funext fun d => Fin.ext ?_)
  have e := k0_off2_eq i k r
  match d with
  | ⟨0, _⟩ => show k0_off2 i k (BitVec.ofNat 32 r.val) 0 + 1 * 0 = _; rw [e]; exact h0

/-- The offset, as its block's one element. -/
theorem offset_apply (arg3 : Memref sig .tc .smem S1 .f32) (harg3 : arg3.IsWhole) (x1 : Vec Ideal S1 .f32) :
    arg3.view.readAt (Elt Ideal) (Rect.unit (s := S1) ![0] S1.size inb_S1_S1_0).toLoadRect (harg3.unread x1) (Shape.Idx.first (numel1_S1 ▸ Nat.one_pos))
      = x1 (ix1 0) := by
  show arg3.view.read (Elt Ideal) (harg3.unread x1) ((Rect.unit (s := S1) ![0] S1.size inb_S1_S1_0).idx (Shape.Idx.first (numel1_S1 ▸ Nat.one_pos))) = _
  rw [harg3.read_unread]
  refine congrArg x1 (funext fun d => Fin.ext ?_)
  match d with
  | ⟨0, _⟩ => rfl

/-- What one slab stores is the tile at the slab's rows and columns. -/
theorem slab_eq_tile (i : grid0.Coords) (arg2 : Memref sig .tc .smem S704 .f32) (harg2 : arg2.IsWhole)
    (arg3 : Memref sig .tc .smem S1 .f32) (harg3 : arg3.IsWhole) (arg5 : Memref sig .tc .vmem S512x1024 .i8) (harg5 : arg5.IsWhole)
    (arg6 : Memref sig .tc .vmem S512x32 .i8) (harg6 : arg6.IsWhole) (k0_h1 : k0_cond1 i = 1#1) (k : Fin k0_t1_loop.trips)
    (x0 : Vec Ideal S704 .f32) (x1 : Vec Ideal S1 .f32) (x3 : Vec Ideal S512x1024 .i8) (x4 : Vec Ideal S512x32 .i8)
    (c : Fin 8) (h : Fin 2) (o o' : Fin 2 → ℕ) (ho : ∀ a, o a + S64x128.size a ≤ S512x2048.size a)
    (ho' : ∀ a, o' a + S64x128.size a ≤ S512x1024.size a) (eo : o = ![64 * k.val, 128 * (2 * c.val + h.val)]) (eo' : o' = ![64 * k.val, 128 * c.val])
    (x : S64x128.Idx) :
    slab (F := Ideal) (rowScales i arg2 arg3 arg6 k0_h1 (harg2.unread x0) (harg3.unread x1) (harg6.unread x4) k)
        (words arg5 o' ho' (harg5.unread x3)) (BitVec.ofNat 32 (64 * h.val)) (BitVec.ofNat 32 (2 * (2 * c.val + h.val))) x
      = tile (i 0) x0 x1 x3 x4 ((Rect.unit (s := S512x2048) o S64x128.size ho).emb x) := by
  subst eo eo'
  obtain ⟨r, l, rfl⟩ : ∃ (r : Fin 64) (l : Fin 128), x = ix2 r l := ⟨x 0, x 1, eq_ix2 x⟩
  have hk : k.val < 8 := Nat.lt_of_lt_of_eq k.isLt (by decide)
  have hr := r.isLt
  have hl := l.isLt
  have e0 : (((Rect.unit (s := S512x2048) ![64 * k.val, 128 * (2 * c.val + h.val)] S64x128.size ho).emb (ix2 r l)) 0).val = 64 * k.val + r.val := by
    show 64 * k.val + 1 * r.val = _; omega
  have e1 : (((Rect.unit (s := S512x2048) ![64 * k.val, 128 * (2 * c.val + h.val)] S64x128.size ho).emb (ix2 r l)) 1).val = l.val + 128 * (2 * c.val + h.val) := by
    show 128 * (2 * c.val + h.val) + 1 * l.val = _; omega
  generalize (Rect.unit (s := S512x2048) ![64 * k.val, 128 * (2 * c.val + h.val)] S64x128.size ho).emb (ix2 r l) = y at e0 e1
  refine (slab_apply _ _ (factor (F := Ideal) i arg2 k0_h1 (harg2.unread x0) k) _ c h r l _ e1).trans ?_
  unfold tile
  rw [words_apply arg5 harg5 x3 _ _ ho' r _ (ix2 (y 0) ⟨(y 1).val / 2, by omega⟩) e0.symm (by show 128 * c.val + (l.val / 2 + 64 * h.val) = (y 1).val / 2; omega),
    codes_apply i arg6 harg6 k0_h1 x4 k r ⟨(y 1).val / 64, by omega⟩ (ix2 (y 0) ⟨(y 1).val / 64, by omega⟩) e0.symm rfl,
    factor_apply i arg2 harg2 k0_h1 x0 k _ (ix1 ⟨64 * (i 0).val + (y 0).val / 8, by have h0 : (i 0).val < 11 := (i 0).isLt; omega⟩)
      (by show 64 * (i 0).val + 8 * k.val + r.val / 8 = 64 * (i 0).val + (y 0).val / 8; omega),
    offset_apply arg3 harg3 x1]

/-- Everything one trip stores is the tile at the place where it is stored. -/
theorem tripL_tile (𝒱 : Variants) (c : Dev nD) (bd : Option 𝒱.V) (i : grid0.Coords) (arg2 : Memref sig .tc .smem S704 .f32) (harg2 : arg2.IsWhole) (arg3 : Memref sig .tc .smem S1 .f32) (harg3 : arg3.IsWhole) (arg4 : Memref sig .tc .vmem S1024x2048 .bf16) (harg4 : arg4.IsWhole) (arg5 : Memref sig .tc .vmem S512x1024 .i8) (harg5 : arg5.IsWhole) (arg6 : Memref sig .tc .vmem S512x32 .i8) (harg6 : arg6.IsWhole) (arg7 : Memref sig .tc .vmem S1024x512 .bf16) (harg7 : arg7.IsWhole) (arg8 : Memref sig .tc .vmem S512x2048 .bf16) (harg8 : arg8.IsWhole) (arg0 : BitVec 32) (k0_h1 : k0_cond1 i = 1#1)
    (x0 : Vec Ideal S704 .f32) (x1 : Vec Ideal S1 .f32) (x3 : Vec Ideal S512x1024 .i8) (x4 : Vec Ideal S512x32 .i8) (k : Fin k0_t1_loop.trips) :
    ∀ p ∈ tripL_k0_t1 (F := Ideal) 𝒱 c bd i arg2 harg2 arg3 harg3 arg4 harg4 arg5 harg5 arg6 harg6 arg7 harg7 arg8 harg8 arg0 k0_h1 (harg2.unread x0) (harg3.unread x1) (harg5.unread x3) (harg6.unread x4) k,
      ∀ x : p.1.shape.Idx, p.2 x = tile (i 0) x0 x1 x3 x4 (p.1.emb x) := by
  have t := slab_eq_tile i arg2 harg2 arg3 harg3 arg5 harg5 arg6 harg6 k0_h1 k x0 x1 x3 x4
  rw [tripL_eq]
  simp only [List.forall_mem_cons]
  exact ⟨t 7 1 _ _ _ _ (k0_off26_eq k) (k0_off24_eq k), t 7 0 _ _ _ _ (k0_off25_eq k) (k0_off24_eq k),
    t 6 1 _ _ _ _ (k0_off23_eq k) (k0_off21_eq k), t 6 0 _ _ _ _ (k0_off22_eq k) (k0_off21_eq k),
    t 5 1 _ _ _ _ (k0_off20_eq k) (k0_off18_eq k), t 5 0 _ _ _ _ (k0_off19_eq k) (k0_off18_eq k),
    t 4 1 _ _ _ _ (k0_off17_eq k) (k0_off15_eq k), t 4 0 _ _ _ _ (k0_off16_eq k) (k0_off15_eq k),
    t 3 1 _ _ _ _ (k0_off14_eq k) (k0_off12_eq k), t 3 0 _ _ _ _ (k0_off13_eq k) (k0_off12_eq k),
    t 2 1 _ _ _ _ (k0_off11_eq k) (k0_off9_eq k), t 2 0 _ _ _ _ (k0_off10_eq k) (k0_off9_eq k),
    t 1 1 _ _ _ _ (k0_off8_eq k) (k0_off6_eq k), t 1 0 _ _ _ _ (k0_off7_eq k) (k0_off6_eq k),
    t 0 1 _ _ _ _ (k0_off5_eq k) (k0_off3_eq k), t 0 0 _ _ _ _ (k0_off4_eq k) (k0_off3_eq k),
    fun _ h => absurd h List.not_mem_nil⟩

/-- Everything the trips before the `n`-th store is the tile at the place where it is stored. -/
theorem pb_tile (𝒱 : Variants) (c : Dev nD) (bd : Option 𝒱.V) (i : grid0.Coords) (arg2 : Memref sig .tc .smem S704 .f32) (harg2 : arg2.IsWhole) (arg3 : Memref sig .tc .smem S1 .f32) (harg3 : arg3.IsWhole) (arg4 : Memref sig .tc .vmem S1024x2048 .bf16) (harg4 : arg4.IsWhole) (arg5 : Memref sig .tc .vmem S512x1024 .i8) (harg5 : arg5.IsWhole) (arg6 : Memref sig .tc .vmem S512x32 .i8) (harg6 : arg6.IsWhole) (arg7 : Memref sig .tc .vmem S1024x512 .bf16) (harg7 : arg7.IsWhole) (arg8 : Memref sig .tc .vmem S512x2048 .bf16) (harg8 : arg8.IsWhole) (arg0 : BitVec 32) (k0_h1 : k0_cond1 i = 1#1)
    (x0 : Vec Ideal S704 .f32) (x1 : Vec Ideal S1 .f32) (x3 : Vec Ideal S512x1024 .i8) (x4 : Vec Ideal S512x32 .i8) (n : ℕ) (hn : n ≤ k0_t1_loop.trips) :
    ∀ p ∈ pb_k0_t1 (F := Ideal) 𝒱 c bd i arg2 harg2 arg3 harg3 arg4 harg4 arg5 harg5 arg6 harg6 arg7 harg7 arg8 harg8 arg0 k0_h1 (harg2.unread x0) (harg3.unread x1) (harg5.unread x3) (harg6.unread x4) n,
      ∀ x : p.1.shape.Idx, p.2 x = tile (i 0) x0 x1 x3 x4 (p.1.emb x) := by
  induction n with
  | zero => exact fun _ h => absurd h List.not_mem_nil
  | succ n ih =>
    intro p hp
    rw [pb_k0_t1_succ (F := Ideal) 𝒱 c bd i arg2 harg2 arg3 harg3 arg4 harg4 arg5 harg5 arg6 harg6 arg7 harg7 arg8 harg8 arg0 k0_h1 (harg2.unread x0) (harg3.unread x1) (harg5.unread x3) (harg6.unread x4) ⟨n, hn⟩] at hp
    rcases List.mem_append.mp hp with h | h
    · exact tripL_tile 𝒱 c bd i arg2 harg2 arg3 harg3 arg4 harg4 arg5 harg5 arg6 harg6 arg7 harg7 arg8 harg8 arg0 k0_h1 x0 x1 x3 x4 ⟨n, hn⟩ p h
    · exact ih (Nat.le_of_succ_le hn) p h

end Cert.KernelIdeal.Tile

end
-- ==== Proof.Cases.lean ====
module

public import proofs.«01_k».proof.Proof.Tile

@[expose] public section

set_option maxRecDepth 8192

noncomputable section

/-!
What one grid point leaves: the scratch holds the weight tile (written at the first point of a column group, kept at the
others), and the output block is the input block times the transposed scratch.
-/

namespace Cert.KernelIdeal.Tile

open Idealize.ShloMosaic Idealize.ShloMosaic.TcCoe Idealize.ShloMosaic.Tactic Idealize.SL.Sem
open Cert.KernelIdeal Cert.KernelIdeal.Gen Nf4

/-- A block of rows times the transposed weight tile. -/
def rowsBy (x : Vec Ideal S1024x2048 .bf16) (w : Vec Ideal S512x2048 .bf16) : Vec Ideal S1024x512 .bf16 := fun y =>
  ∑ k : Fin 2048, x (ix2 (y 0) k) * w (ix2 (y 1) k)

/-- The stored product is `rowsBy`. -/
theorem pay2_eq (x : FVec Ideal S1024x2048 .bf16) (w : FVec Ideal S512x2048 .bf16) : k0_pay2 (F := Ideal) x w = rowsBy x w := by
  funext y
  pointwise [k0_pay2, rowsBy]

/-- Two zero offsets, as a constant function. -/
theorem zero2 : (![0, 0] : Fin 2 → ℕ) = fun _ => 0 := by decide

/-- A load of a whole buffer reads what the buffer holds. -/
theorem readAt_whole {κ : Kind} {sp : Space} {S : Shape} {e : EltTy} (v : View sig κ sp S e) (f : v.ty.Contents (Elt Ideal))
    {X : S.Idx → Elt Ideal e} (hX : v.read (Elt Ideal) f = X) (off : Fin S.rank → ℕ) (h : off = fun _ => 0)
    (inb : ∀ a, off a + S.size a ≤ S.size a) : v.readAt (Elt Ideal) (Rect.unit off S.size inb).toLoadRect f = X :=
  (congrArg (fun Y => View.ld Y (Rect.unit off S.size inb)) hX).trans (View.ld_unit_zero h inb X)

/-- The first point of a column group leaves the weight tile in the scratch. -/
theorem scratch_A (c : Dev nD) (i : grid0.Coords) (arg2 : Memref sig .tc .smem S704 .f32) (harg2 : arg2.IsWhole) (arg3 : Memref sig .tc .smem S1 .f32) (harg3 : arg3.IsWhole) (arg4 : Memref sig .tc .vmem S1024x2048 .bf16) (harg4 : arg4.IsWhole) (arg5 : Memref sig .tc .vmem S512x1024 .i8) (harg5 : arg5.IsWhole) (arg6 : Memref sig .tc .vmem S512x32 .i8) (harg6 : arg6.IsWhole) (arg7 : Memref sig .tc .vmem S1024x512 .bf16) (harg7 : arg7.IsWhole) (arg8 : Memref sig .tc .vmem S512x2048 .bf16) (harg8 : arg8.IsWhole) (hc0 : cond0_0 i)
    (x0 : Vec Ideal S704 .f32) (x1 : Vec Ideal S1 .f32) (x2 : Vec Ideal S1024x2048 .bf16) (x3 : Vec Ideal S512x1024 .i8) (x4 : Vec Ideal S512x32 .i8) :
    sout0_A_0 c i arg2 harg2 arg3 harg3 arg4 harg4 arg5 harg5 arg6 harg6 arg7 harg7 arg8 harg8 hc0 x0 x1 x2 x3 x4 = tile (i 0) x0 x1 x3 x4 := by
  funext y
  refine (View.read_writes_junk_apply_eq_canon VS0_0 y _).trans ?_
  refine View.canon_apply_of_pieces _ _ ?_ y (scover0_A_0 c i arg2 harg2 arg3 harg3 arg4 harg4 arg5 harg5 arg6 harg6 arg7 harg7 arg8 harg8 hc0 x0 x1 x2 x3 x4 y)
  unfold kernelRun0_A
  dsimp only
  exact pb_tile _ _ _ _ _ _ _ _ _ _ _ _ _ _ _ _ _ _ _ _ x0 x1 x3 x4 _ (by decide)

/-- The first point of a column group leaves the product with the weight tile in the output block. -/
theorem out_A (c : Dev nD) (i : grid0.Coords) (arg2 : Memref sig .tc .smem S704 .f32) (harg2 : arg2.IsWhole) (arg3 : Memref sig .tc .smem S1 .f32) (harg3 : arg3.IsWhole) (arg4 : Memref sig .tc .vmem S1024x2048 .bf16) (harg4 : arg4.IsWhole) (arg5 : Memref sig .tc .vmem S512x1024 .i8) (harg5 : arg5.IsWhole) (arg6 : Memref sig .tc .vmem S512x32 .i8) (harg6 : arg6.IsWhole) (arg7 : Memref sig .tc .vmem S1024x512 .bf16) (harg7 : arg7.IsWhole) (arg8 : Memref sig .tc .vmem S512x2048 .bf16) (harg8 : arg8.IsWhole) (hc0 : cond0_0 i)
    (x0 : Vec Ideal S704 .f32) (x1 : Vec Ideal S1 .f32) (x2 : Vec Ideal S1024x2048 .bf16) (x3 : Vec Ideal S512x1024 .i8) (x4 : Vec Ideal S512x32 .i8) :
    out0_A_5 c i arg2 harg2 arg3 harg3 arg4 harg4 arg5 harg5 arg6 harg6 arg7 harg7 arg8 harg8 hc0 x0 x1 x2 x3 x4 = rowsBy x2 (tile (i 0) x0 x1 x3 x4) := by
  have hs := scratch_A c i arg2 harg2 arg3 harg3 arg4 harg4 arg5 harg5 arg6 harg6 arg7 harg7 arg8 harg8 hc0 x0 x1 x2 x3 x4
  unfold sout0_A_0 at hs
  unfold out0_A_5
  unfold kernelRun0_A at hs ⊢
  dsimp only at hs ⊢
  rw [View.read_writes_junk_eq_canon] at hs ⊢
  refine (View.canon_unit_zero zero2 _ _).trans ?_
  refine (pay2_eq _ _).trans ?_
  rw [View.readCov_eq_canon', hs]
  exact congrArg₂ rowsBy (readAt_whole arg4.view _ (harg4.read_unread x2) _ zero2 _) (View.ld_unit_zero (Val := Elt Ideal) (e := .bf16) (S := S512x2048) zero2 _ _)

/-- Any other point leaves the product with what the scratch holds. -/
theorem out_B (c : Dev nD) (i : grid0.Coords) (arg2 : Memref sig .tc .smem S704 .f32) (harg2 : arg2.IsWhole) (arg3 : Memref sig .tc .smem S1 .f32) (harg3 : arg3.IsWhole) (arg4 : Memref sig .tc .vmem S1024x2048 .bf16) (harg4 : arg4.IsWhole) (arg5 : Memref sig .tc .vmem S512x1024 .i8) (harg5 : arg5.IsWhole) (arg6 : Memref sig .tc .vmem S512x32 .i8) (harg6 : arg6.IsWhole) (arg7 : Memref sig .tc .vmem S1024x512 .bf16) (harg7 : arg7.IsWhole) (arg8 : Memref sig .tc .vmem S512x2048 .bf16) (harg8 : arg8.IsWhole) (hc0 : ¬cond0_0 i)
    (x0 : Vec Ideal S704 .f32) (x1 : Vec Ideal S1 .f32) (x2 : Vec Ideal S1024x2048 .bf16) (x3 : Vec Ideal S512x1024 .i8) (x4 : Vec Ideal S512x32 .i8) (xs0 : Vec Ideal S512x2048 .bf16) :
    out0_B_5 c i arg2 harg2 arg3 harg3 arg4 harg4 arg5 harg5 arg6 harg6 arg7 harg7 arg8 harg8 hc0 x0 x1 x2 x3 x4 xs0 = rowsBy x2 xs0 := by
  unfold out0_B_5
  unfold kernelRun0_B
  dsimp only
  rw [View.read_writes_junk_eq_canon]
  refine (View.canon_unit_zero zero2 _ _).trans ?_
  refine (pay2_eq _ _).trans ?_
  exact congrArg₂ rowsBy (readAt_whole arg4.view _ (harg4.read_unread x2) _ zero2 _) (readAt_whole arg8.view _ (harg8.read_unread xs0) _ zero2 _)

end Cert.KernelIdeal.Tile

end
-- ==== Proof.KernelValue.lean ====
module

public import proofs.«01_k».proof.Proof.Cases
public import Idealize.ShloMosaic.Lib.Pipeline.ValueKit

@[expose] public section

set_option maxRecDepth 8192

noncomputable section

/-!
What the kernel leaves in its result: at row `a` and column `b`, the sum over `k` of the input row's element `k` times the
weight of output `b` at `k`. The blocks that a point reads are parts of the arguments; the scratch holds, after every
point, the weights of the point's column group.
-/

namespace Cert.KernelIdeal.Tile

open Idealize.ShloMosaic Idealize.ShloMosaic.TcCoe Idealize.ShloMosaic.Tactic Idealize.SL.Sem
open Cert.KernelIdeal Cert.KernelIdeal.Gen Cert.KernelIdeal.Value Nf4

variable (m : (ℓ : Loc nD τ sig) → Buf (Elt Ideal) ℓ) (c : Dev nD)

/-- Which block of its array each input window reads at point `t`, and the point's column group. -/
theorem idx : ∀ t : Fin cfg0.N, win0_0.index t = ![0] ∧ win0_1.index t = ![0] ∧ win0_2.index t = ![t.val % 8, 0]
    ∧ win0_3.index t = ![t.val / 8, 0] ∧ win0_4.index t = ![t.val / 8, 0] ∧ (grid0.coords t 0).val = t.val / 8 :=
  (by decide +kernel : ∀ t : Fin grid0.N, win0_0.index t = ![0] ∧ win0_1.index t = ![0] ∧ win0_2.index t = ![t.val % 8, 0]
    ∧ win0_3.index t = ![t.val / 8, 0] ∧ win0_4.index t = ![t.val / 8, 0] ∧ (grid0.coords t 0).val = t.val / 8)

/-- The block of factors is the whole list. -/
theorem iblk0 (t : Fin cfg0.N) (a : Fin 704) : iblk m c 0 t (ix1 a) = m ((c : Thread nD τ).loc main_arg3) (ix1 a) := by
  blk_ext! [iblk, V, idx t]

/-- The block of the offset is the offset. -/
theorem iblk1 (t : Fin cfg0.N) : iblk m c 1 t (ix1 0) = m ((c : Thread nD τ).loc main_arg4) ix0 := by
  blk_ext! [iblk, V, idx t]

/-- The block of input rows at point `t` is part `t % 8` of the input. -/
theorem iblk2 (t : Fin cfg0.N) (r : Fin 1024) (k : Fin 2048) :
    iblk m c 2 t (ix2 r k) = m ((c : Thread nD τ).loc main_arg0) (ix3 ⟨t.val % 8, Nat.mod_lt _ (by decide)⟩ r k) := by
  blk_ext! [iblk, V, idx t]

/-- The block of packed bytes at point `t` is rows `512 (t / 8)` on. -/
theorem iblk3 (t : Fin cfg0.N) (r : Fin 512) (l : Fin 1024) (o : Fin 5632) (ho : o.val = 512 * (t.val / 8) + r.val) :
    iblk m c 3 t (ix2 r l) = m ((c : Thread nD τ).loc main_arg1) (ix2 o l) := by
  blk_ext [iblk, V, idx t]

/-- The block of scale codes at point `t` is rows `512 (t / 8)` on. -/
theorem iblk4 (t : Fin cfg0.N) (r : Fin 512) (l : Fin 32) (o : Fin 5632) (ho : o.val = 512 * (t.val / 8) + r.val) :
    iblk m c 4 t (ix2 r l) = m ((c : Thread nD τ).loc main_arg2) (ix2 o l) := by
  blk_ext [iblk, V, idx t]

/-- The weights that the arguments hold. -/
def argWeights : Fin 5632 → Fin 2048 → EReal :=
  weights (m ((c : Thread nD τ).loc main_arg1)) (m ((c : Thread nD τ).loc main_arg2)) (m ((c : Thread nD τ).loc main_arg3))
    (m ((c : Thread nD τ).loc main_arg4))

/-- The tile computed from the blocks of point `t` holds the weights of the point's column group. -/
theorem tile_eq (t : Fin cfg0.N) (r : Fin 512) (k : Fin 2048) (o : Fin 5632) (ho : o.val = 512 * (t.val / 8) + r.val) :
    tile (grid0.coords t 0) (iblk m c 0 t) (iblk m c 1 t) (iblk m c 3 t) (iblk m c 4 t) (ix2 r k) = argWeights m c o k := by
  have hg := (idx t).2.2.2.2.2
  unfold tile argWeights weights
  refine congr (congr (congr (congr (congrArg weight (iblk3 m c t r _ o ho)) rfl) (iblk4 m c t r _ o ho)) ?_) (iblk1 m c t)
  refine (iblk0 m c t _).trans (congrArg (fun a => m ((c : Thread nD τ).loc main_arg3) (ix1 a)) (Fin.ext ?_))
  show 64 * (grid0.coords t 0).val + r.val / 8 = o.val / 8
  omega

/-- After every point the scratch holds the weights of the point's column group. -/
theorem scratch_eq : ∀ (n : ℕ) (hn : n < cfg0.N) (r : Fin 512) (k : Fin 2048) (o : Fin 5632), o.val = 512 * (n / 8) + r.val →
    (outsAt0 m c n hn).2 (ix2 r k) = argWeights m c o k := by
  intro n
  induction n with
  | zero =>
    intro hn r k o ho
    rw [show outsAt0 m c 0 hn = _ from outsAt0_A m c ⟨0, hn⟩ rfl]
    dsimp only
    rw [scratch_A]
    exact tile_eq m c ⟨0, hn⟩ r k o ho
  | succ n ih =>
    intro hn r k o ho
    by_cases h0 : (n + 1) % 8 = 0
    · rw [show outsAt0 m c (n + 1) hn = _ from outsAt0_A m c ⟨n + 1, hn⟩ h0]
      dsimp only
      rw [scratch_A]
      exact tile_eq m c ⟨n + 1, hn⟩ r k o ho
    · rw [show outsAt0 m c (n + 1) hn = _ from outsAt0_B m c ⟨n + 1, hn⟩ h0]
      exact ih (Nat.lt_of_succ_lt hn) r k o (by omega)

/-- After every point the output block holds the products of the point's input rows with the weights of its column group. -/
theorem out_eq (t : Fin cfg0.N) (r : Fin 1024) (j : Fin 512) (o : Fin 5632) (ho : o.val = 512 * (t.val / 8) + j.val) :
    (outsAt0 m c t.val t.isLt).1 (ix2 r j) = product (m ((c : Thread nD τ).loc main_arg0)) (argWeights m c)
      ⟨t.val % 8, Nat.mod_lt _ (by decide)⟩ r o := by
  have h : (outsAt0 m c t.val t.isLt).1 = rowsBy (iblk m c 2 t) (outsAt0 m c t.val t.isLt).2 := by
    by_cases h0 : t.val % 8 = 0
    · rw [outsAt0_A m c t h0]
      dsimp only
      rw [out_A, scratch_A]
    · rw [outsAt0_B m c t h0]
      dsimp only
      rw [out_B]
      rfl
  rw [h]
  refine Finset.sum_congr rfl fun k _ => ?_
  exact congr (congrArg _ (iblk2 m c t r k)) (scratch_eq m c t.val t.isLt j k o ho)

/-- The kernel's result at row `a` and column `b`. -/
theorem G5_eq (a : Fin 8192) (b : Fin 5632) :
    G5 m c (ix2 a b) = product (m ((c : Thread nD τ).loc main_arg0)) (argWeights m c) ⟨a.val / 1024, by omega⟩
      ⟨a.val % 1024, Nat.mod_lt _ (by decide)⟩ b := by
  have hp : pt5Of (ix2 a b) = a.val / 1024 + 8 * (b.val / 512) := by
    show 1 * (a.val / 1024 - 0) + 8 * (b.val / 512 - 0) = _; omega
  have hN : pt5Of (ix2 a b) < cfg0.N := by rw [hp, show cfg0.N = 88 from N_0]; omega
  have hl : loc5Of (ix2 a b) = ix2 (⟨a.val % 1024, Nat.mod_lt _ (by decide)⟩ : Fin 1024) (⟨b.val % 512, Nat.mod_lt _ (by decide)⟩ : Fin 512) := by
    funext d
    match d with
    | ⟨0, _⟩ => rfl
    | ⟨1, _⟩ => rfl
  unfold G5
  rw [dif_pos hN, ← outsAt0_sweep m c _ hN, hl]
  generalize pt5Of (ix2 a b) = n at hp hN
  refine (out_eq m c ⟨n, hN⟩ _ _ b (by show b.val = 512 * (n / 8) + b.val % 512; omega)).trans ?_
  exact congrArg (fun d => product _ (argWeights m c) d _ b) (Fin.ext (by show n % 8 = a.val / 1024; omega))

end Cert.KernelIdeal.Tile

end
-- ==== Proof.ReferenceValue.lean ====
module

public import proofs.«01_k».proof.Proof.Gen.ReferenceIdeal.Run
public import proofs.«01_k».proof.Proof.Weight
public import Idealize.ShloMosaic.Lib.Pointwise

@[expose] public section

set_option maxRecDepth 8192

noncomputable section

/-!
What the reference leaves in its result: at row `a` and column `b`, the same sum of products with the same weights.
-/

namespace Cert.ReferenceIdeal.Weights

open Idealize.ShloMosaic Idealize.ShloMosaic.TcCoe Idealize.ShloMosaic.Tactic Idealize.SL.Sem
open Cert.ReferenceIdeal Cert.ReferenceIdeal.Gen Cert.ReferenceIdeal.Value Nf4

/-- The codes: the high half of every byte, then its low half, side by side. -/
def codes (p : IVec S5632x1024 8) : IVec S5632x2048 32 :=
  shapeCast S5632x2048 (concatenate S5632x1024x2 2
    [⟨S5632x1024x1, (broadcastInDim S5632x1024x1 ![0, 1] bcast_S5632x1024_S5632x1024x1_0_1
      (andi (Host.shrsi (extui 32 p natLt_8_32) (broadcastInDim S5632x1024 ![] bcast_S_S5632x1024 (constantI S_ 32 4#32)))
        (broadcastInDim S5632x1024 ![] bcast_S_S5632x1024 (constantI S_ 32 15#32))))⟩,
     ⟨S5632x1024x1, (broadcastInDim S5632x1024x1 ![0, 1] bcast_S5632x1024_S5632x1024x1_0_1
      (andi (extui 32 p natLt_8_32) (broadcastInDim S5632x1024 ![] bcast_S_S5632x1024 (constantI S_ 32 15#32))))⟩]
    concatenates_S5632x1024x1_S5632x1024x1_S5632x1024x2_d2) shapeCasts_S5632x1024x2_S5632x2048

/-- The bit of the codes that the mask `q` selects. -/
def codeBit (p : IVec S5632x1024 8) (q : BitVec 32) : IVec S5632x2048 1 :=
  cmpi .ne (andi (codes p) (broadcastInDim S5632x2048 ![] bcast_S_S5632x2048 (constantI S_ 32 q)))
    (broadcastInDim S5632x2048 ![] bcast_S_S5632x2048 (constantI S_ 32 0#32))

/-- One table value everywhere. -/
def leaf (v : BitVec 16) : FVec Ideal S5632x2048 .bf16 := broadcastInDim S5632x2048 ![] bcast_S_S5632x2048 (constant S_ .bf16 v)

/-- The codes' values, selected by their bits. -/
def look (b0 b1 b2 b3 : IVec S5632x2048 1) : FVec Ideal S5632x2048 .bf16 :=
  select b3
    (select b2 (select b1 (select b0 (leaf 0x3F80#16) (leaf 0x3F39#16)) (select b0 (leaf 0x3F10#16) (leaf 0x3EE2#16)))
      (select b1 (select b0 (leaf 0x3EAD#16) (leaf 0x3E7C#16)) (select b0 (leaf 0x3E25#16) (leaf 0x3DA3#16))))
    (select b2 (select b1 (select b0 (leaf 0x0000#16) (leaf 0xBDBA#16)) (select b0 (leaf 0xBE3D#16) (leaf 0xBE92#16)))
      (select b1 (select b0 (leaf 0xBECA#16) (leaf 0xBF06#16)) (select b0 (leaf 0xBF32#16) (leaf 0xBF80#16))))

/-- The row scales. -/
def scales (q : IVec S5632x32 8) (s : FVec Ideal S704 .f32) (off : FVec Ideal S_ .f32) : FVec Ideal S5632x32 .bf16 :=
  truncf .bf16 (shapeCast S5632x32 (addf (mulf (shapeCast S704x256 (sitofp .f32 (extsi 32 q natLt_8_32)) shapeCasts_S5632x32_S704x256)
    (broadcastInDim S704x256 ![0, 1] bcast_S704x1_S704x256_0_1 (broadcastInDim S704x1 ![0] bcast_S704_S704x1_0 s)))
    (broadcastInDim S704x256 ![] bcast_S_S704x256 off)) shapeCasts_S704x256_S5632x32) bitsLt_bf16_f32

/-- The weights: the codes' values times the scale of their row and group. -/
def weightArr (v : FVec Ideal S5632x2048 .bf16) (s : FVec Ideal S5632x32 .bf16) : FVec Ideal S5632x2048 .bf16 :=
  shapeCast S5632x2048 (mulf (shapeCast S5632x32x64 v shapeCasts_S5632x2048_S5632x32x64)
    (broadcastInDim S5632x32x64 ![0, 1, 2] bcast_S5632x32x1_S5632x32x64_0_1_2 (broadcastInDim S5632x32x1 ![0, 1] bcast_S5632x32_S5632x32x1_0_1 s)))
    shapeCasts_S5632x32x64_S5632x2048

/-- The result: the input times the transposed weights, its first two axes merged. -/
def result (x : FVec Ideal S8x1024x2048 .bf16) (w : FVec Ideal S5632x2048 .bf16) : FVec Ideal S8192x5632 .bf16 :=
  shapeCast S8192x5632 (truncf .bf16 (Host.dotGeneral dot_S8x1024x2048_S5632x2048_S8x1024x5632_2_1_01_0_n_n none x w) bitsLt_bf16_f32)
    shapeCasts_S8x1024x5632_S8192x5632

/-- The bits of a byte's high half, masked out one at a time. -/
theorem hiBit : ∀ (v : BitVec 8) (q : Fin 4),
    IntOp.cmpi .ne (IntOp.andi (IntOp.andi (IntOp.shrsi .host (BitVec.setWidth 32 v) 4#32) 15#32) (BitVec.ofNat 32 (2 ^ q.val))) 0#32
      = BitVec.ofBool (v.getLsbD (q.val + 4)) := by decide +kernel

/-- The bits of a byte's low half, masked out one at a time. -/
theorem loBit : ∀ (v : BitVec 8) (q : Fin 4),
    IntOp.cmpi .ne (IntOp.andi (IntOp.andi (BitVec.setWidth 32 v) 15#32) (BitVec.ofNat 32 (2 ^ q.val))) 0#32
      = BitVec.ofBool (v.getLsbD (q.val + 0)) := by decide +kernel

/-- A bit of the code at row `o` and column `k`, as a bit of the packed byte. -/
theorem codeBit_apply (p : IVec S5632x1024 8) (q : Fin 4) (o : Fin 5632) (k : Fin 2048) :
    codeBit p (BitVec.ofNat 32 (2 ^ q.val)) (ix2 o k)
      = BitVec.ofBool ((p (ix2 o ⟨k.val / 2, by omega⟩)).getLsbD (q.val + nib k.val)) := by
  have hn : nib k.val = if k.val % 2 < 1 then 4 else 0 := if_congr (by omega) rfl rfl
  rw [hn]
  by_cases h : k.val % 2 < 1
  · rw [if_pos h]
    refine Eq.trans ?_ (hiBit _ q)
    pointwise [codeBit, codes]
    rw [dif_pos h]
  · rw [if_neg h]
    refine Eq.trans ?_ (loBit _ q)
    pointwise [codeBit, codes]
    rw [dif_neg h]

/-- The code's value at row `o` and column `k`. -/
theorem look_apply (p : IVec S5632x1024 8) (o : Fin 5632) (k : Fin 2048) :
    look (codeBit p 1#32) (codeBit p 2#32) (codeBit p 4#32) (codeBit p 8#32) (ix2 o k) = code (F := Ideal) (p (ix2 o ⟨k.val / 2, by omega⟩)) k.val := by
  have h0 := codeBit_apply p 0 o k
  have h1 := codeBit_apply p 1 o k
  have h2 := codeBit_apply p 2 o k
  have h3 := codeBit_apply p 3 o k
  change table (codeBit p 1#32 (ix2 o k)) (codeBit p 2#32 (ix2 o k)) (codeBit p 4#32 (ix2 o k)) (codeBit p 8#32 (ix2 o k)) = _
  exact congr (congr (congr (congrArg table h0) h1) h2) h3

/-- The scale of row `o` and group `g`. -/
theorem scales_apply (q : IVec S5632x32 8) (s : FVec Ideal S704 .f32) (off : FVec Ideal S_ .f32) (o : Fin 5632) (g : Fin 32) :
    scales q s off (ix2 o g) = scale (q (ix2 o g)) (s (ix1 ⟨o.val / 8, by omega⟩)) (off ix0) := by
  pointwise [scales, scale]
  rw [show (FloatOps.sitofp (F := Ideal) FTy.f32 (BitVec.signExtend 32 (q (ix2 o g)))) = (((BitVec.signExtend 32 (q (ix2 o g))).toInt : ℝ) : EReal)
    from rfl, BitVec.toInt_signExtend_of_le (by decide)]

/-- The weight of output `o` at input `k`. -/
theorem weightArr_apply (v : FVec Ideal S5632x2048 .bf16) (s : FVec Ideal S5632x32 .bf16) (o : Fin 5632) (k : Fin 2048) :
    weightArr v s (ix2 o k) = v (ix2 o k) * s (ix2 o ⟨k.val / 64, by omega⟩) := by
  pointwise [weightArr]

/-- The result at row `a` and column `b`. -/
theorem result_apply (x : FVec Ideal S8x1024x2048 .bf16) (w : FVec Ideal S5632x2048 .bf16) (a : Fin 8192) (b : Fin 5632) :
    result x w (ix2 a b) = product x (fun o k => w (ix2 o k)) ⟨a.val / 1024, by omega⟩ ⟨a.val % 1024, Nat.mod_lt _ (by decide)⟩ b := by
  pointwise [result, product]

variable (m : (ℓ : Loc nD τ sig) → Buf (Elt Ideal) ℓ) (c : Dev nD)

/-- The weights that the arguments hold. -/
def argWeights : Fin 5632 → Fin 2048 → EReal :=
  weights (m ((c : Thread nD τ).loc main_arg1)) (m ((c : Thread nD τ).loc main_arg2)) (m ((c : Thread nD τ).loc main_arg3))
    (m ((c : Thread nD τ).loc main_arg4))

/-- The reference's composed term, in the pieces above. -/
theorem res_eq : res_out0 m c = result (m ((c : Thread nD τ).loc main_arg0))
    (weightArr (look (codeBit (m ((c : Thread nD τ).loc main_arg1)) 1#32) (codeBit (m ((c : Thread nD τ).loc main_arg1)) 2#32)
        (codeBit (m ((c : Thread nD τ).loc main_arg1)) 4#32) (codeBit (m ((c : Thread nD τ).loc main_arg1)) 8#32))
      (scales (m ((c : Thread nD τ).loc main_arg2)) (m ((c : Thread nD τ).loc main_arg3)) (m ((c : Thread nD τ).loc main_arg4)))) := by
  rfl

/-- The reference's result at row `a` and column `b`. -/
theorem res_apply (a : Fin 8192) (b : Fin 5632) :
    res_out0 m c (ix2 a b) = product (m ((c : Thread nD τ).loc main_arg0)) (argWeights m c) ⟨a.val / 1024, by omega⟩
      ⟨a.val % 1024, Nat.mod_lt _ (by decide)⟩ b := by
  rw [res_eq]
  refine (result_apply _ _ a b).trans ?_
  refine congrArg (fun w => product _ w _ _ _) (funext fun o => funext fun k => ?_)
  rw [weightArr_apply, look_apply, scales_apply]
  rfl

end Cert.ReferenceIdeal.Weights

end
-- ==== Proof.lean ====
/-
  The proof of `Cert.Claim` (proofs.«01_k».proof.Defs), hand-written.

    quiescent_Kernel, quiescent_KernelIdeal — the generated frames (`Gen.frame` of each program).
    quiescent_ReferenceIdeal — read off the reference's generated run.
    preserves_Kernel_KernelIdeal — no operation was rewritten, so there is nothing to restate.
    algebraic_KernelIdeal_ReferenceIdeal — `Proof/KernelValue.lean` reads the kernel's result, and
      `Proof/ReferenceValue.lean` the reference's, at every row and column as one sum of products
      (`Nf4.product`, `Proof/Weight.lean`) of the same arguments.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent
public import proofs.«01_k».proof.Proof.Gen.KernelIdeal.Value
public import proofs.«01_k».proof.Proof.Gen.ReferenceIdeal.Run
public import proofs.«01_k».proof.Proof.KernelValue
public import proofs.«01_k».proof.Proof.ReferenceValue

@[expose] public section

set_option maxRecDepth 8192

noncomputable section

namespace Cert.Proof

open Idealize.ShloMosaic Idealize.ShloMosaic.TcCoe Idealize.SL.Sem

/-- The reference's frame: it terminates, leaves its arguments unchanged, and every semaphore counter reads zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From memories that agree on the arguments, the kernel's result array equals the reference's. -/
theorem results_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (((c : Dev Cert.ReferenceIdeal.nD).tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' (((c : Dev Cert.ReferenceIdeal.nD).tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' (((c : Dev Cert.ReferenceIdeal.nD).tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' (((c : Dev Cert.ReferenceIdeal.nD).tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' (((c : Dev Cert.ReferenceIdeal.nD).tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_out0 m' c = Cert.KernelIdeal.Value.G5 m c := by
  funext i
  obtain ⟨a, b, rfl⟩ : ∃ (a : Fin 8192) (b : Fin 5632), i = ix2 a b := ⟨i 0, i 1, eq_ix2 i⟩
  refine (Cert.ReferenceIdeal.Weights.res_apply m' c a b).trans (Eq.trans ?_ (Cert.KernelIdeal.Tile.G5_eq m c a b).symm)
  unfold Cert.ReferenceIdeal.Weights.argWeights Cert.KernelIdeal.Tile.argWeights
  rw [h0, h1, h2, h3, h4]

/-- The kernel's run and the reference's, from agreeing arguments, end with equal results and unchanged arguments. -/
theorem algebraic : Cert.algebraic_KernelIdeal_ReferenceIdeal := by
  intro m ρ m' ρ' _ hagree
  refine ⟨fun c => Cert.KernelIdeal.Value.G5 m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  exact results_eq m m' c h0 h1 h2 h3 h4

/-- The whole certificate: the three frames, the idealization, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
